-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S1024x512 : Shape := ⟨2, ![1024, 512]⟩
abbrev S4 : Shape := ⟨1, ![4]⟩
abbrev S_ : Shape := ⟨0, ![]⟩
abbrev S64x512 : Shape := ⟨2, ![64, 512]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S512x512, .bf16⟩
  | .hbm, ⟨1, _⟩ => ⟨S1024x512, .bf16⟩
  | .local _ .vmem, ⟨0, _⟩ => ⟨S512x512, .bf16⟩
  | .local _ .vmem, ⟨1, _⟩ => ⟨S1024x512, .bf16⟩
  | _, _ => ⟨S512x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5 : BitVec 32 := 8#32
  let v12 : BitVec 32 := Scalar.muli v9 c8_i32_5
  let v13 : BitVec 32 := Scalar.addi c0_i32 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v18 : BitVec 32 := Scalar.muli v2 c8_i32_9
  let v19 : BitVec 32 := Scalar.addi c0_i32_10 v18
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_11 : BitVec 32 := 4#32
  let v20 : BitVec 32 := Scalar.muli v10 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) (c0_i32_17 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v27 : BitVec 32 := Scalar.muli v5 c256_i32
  let v29 : BitVec 32 := Scalar.addi v27 c0_i32_17
  let v30 : Index := Scalar.indexCast v29
  let c0 : Index := 0#32
  ![v30.toNat, 0]
def k0_off2 (d0 : Dev nD) (c0_i32_18 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32 : BitVec 32 := 512#32
  let v24 : BitVec 32 := Scalar.muli v2 c512_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v27 : BitVec 32 := Scalar.muli v5 c256_i32
  let v33 : BitVec 32 := Scalar.addi v24 v27
  let v34 : BitVec 32 := Scalar.addi v33 c0_i32_18
  let v35 : Index := Scalar.indexCast v34
  let c0_19 : Index := 0#32
  ![v35.toNat, 0]
def k0_off3 (d0 : Dev nD) (c0_i32_21 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32 : BitVec 32 := 512#32
  let v24 : BitVec 32 := Scalar.muli v2 c512_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v27 : BitVec 32 := Scalar.muli v5 c256_i32
  let v39 : BitVec 32 := Scalar.addi v24 v27
  let v40 : BitVec 32 := Scalar.addi v39 c0_i32_21
  let c0_i32_28 : BitVec 32 := 0#32
  ![v40.toNat, 0]
def k0_dev3 (d0 : Dev nD) : Nat :=
  let c0_i32_25 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_24 : BitVec 32 := 8#32
  let v41 : BitVec 32 := Scalar.muli v9 c8_i32_24
  let v42 : BitVec 32 := Scalar.addi c0_i32_25 v41
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_26 : BitVec 32 := 4#32
  let v43 : BitVec 32 := Scalar.muli v5 c4_i32_26
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v45 : BitVec 32 := Scalar.muli v8 c1_i32_27
  let v46 : BitVec 32 := Scalar.addi v44 v45
  v46.toNat
def k0_dev4 (d0 : Dev nD) : Nat :=
  let c0_i32_38 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_37 : BitVec 32 := 8#32
  let v65 : BitVec 32 := Scalar.muli v9 c8_i32_37
  let v66 : BitVec 32 := Scalar.addi c0_i32_38 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_39 : BitVec 32 := 4#32
  let v67 : BitVec 32 := Scalar.muli v5 c4_i32_39
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v69 : BitVec 32 := Scalar.muli v8 c1_i32_40
  let v70 : BitVec 32 := Scalar.addi v68 v69
  v70.toNat
def k0_dev5 (d0 : Dev nD) : Nat :=
  let c0_i32_51 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_50 : BitVec 32 := 8#32
  let v89 : BitVec 32 := Scalar.muli v9 c8_i32_50
  let v90 : BitVec 32 := Scalar.addi c0_i32_51 v89
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_52 : BitVec 32 := 4#32
  let v91 : BitVec 32 := Scalar.muli v5 c4_i32_52
  let v92 : BitVec 32 := Scalar.addi v90 v91
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v93 : BitVec 32 := Scalar.muli v8 c1_i32_53
  let v94 : BitVec 32 := Scalar.addi v92 v93
  v94.toNat
def k0_dev6 (d0 : Dev nD) : Nat :=
  let c0_i32_63 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_62 : BitVec 32 := 8#32
  let v113 : BitVec 32 := Scalar.muli v9 c8_i32_62
  let v114 : BitVec 32 := Scalar.addi c0_i32_63 v113
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_64 : BitVec 32 := 4#32
  let v115 : BitVec 32 := Scalar.muli v5 c4_i32_64
  let v116 : BitVec 32 := Scalar.addi v114 v115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_65 : BitVec 32 := 1#32
  let v117 : BitVec 32 := Scalar.muli v8 c1_i32_65
  let v118 : BitVec 32 := Scalar.addi v116 v117
  v118.toNat
def k0_off4 (d0 : Dev nD) (c0_i32_84 : BitVec 32) : Fin 2 → Nat :=
  let c256_i32_16 : BitVec 32 := 256#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v27 : BitVec 32 := Scalar.muli v5 c256_i32
  let v28 : BitVec 32 := Scalar.subi c256_i32_16 v27
  let v157 : BitVec 32 := Scalar.addi v28 c0_i32_84
  let v158 : Index := Scalar.indexCast v157
  let c0_85 : Index := 0#32
  ![v158.toNat, 0]
def k0_off5 (d0 : Dev nD) (c0_i32_86 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32 : BitVec 32 := 512#32
  let v24 : BitVec 32 := Scalar.muli v2 c512_i32
  let c256_i32_16 : BitVec 32 := 256#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v27 : BitVec 32 := Scalar.muli v5 c256_i32
  let v28 : BitVec 32 := Scalar.subi c256_i32_16 v27
  let v161 : BitVec 32 := Scalar.addi v24 v28
  let v162 : BitVec 32 := Scalar.addi v161 c0_i32_86
  let v163 : Index := Scalar.indexCast v162
  let c0_87 : Index := 0#32
  ![v163.toNat, 0]
def k0_off6 (d0 : Dev nD) (c0_i32_69 : BitVec 32) : Fin 2 → Nat :=
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.subi c1_i32_14 v2
  let c512_i32_15 : BitVec 32 := 512#32
  let v26 : BitVec 32 := Scalar.muli v25 c512_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v27 : BitVec 32 := Scalar.muli v5 c256_i32
  let v127 : BitVec 32 := Scalar.addi v26 v27
  let v128 : BitVec 32 := Scalar.addi v127 c0_i32_69
  let c0_i32_106 : BitVec 32 := 0#32
  ![v128.toNat, 0]
def k0_dev7 (d0 : Dev nD) : Nat :=
  let c0_i32_113 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_112 : BitVec 32 := 8#32
  let v203 : BitVec 32 := Scalar.muli v2 c8_i32_112
  let v204 : BitVec 32 := Scalar.addi c0_i32_113 v203
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_114 : BitVec 32 := 4#32
  let v205 : BitVec 32 := Scalar.muli v10 c4_i32_114
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v207 : BitVec 32 := Scalar.muli v8 c1_i32_115
  let v208 : BitVec 32 := Scalar.addi v206 v207
  v208.toNat
def k0_dev8 (d0 : Dev nD) : Nat :=
  let c0_i32_131 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_130 : BitVec 32 := 8#32
  let v229 : BitVec 32 := Scalar.muli v2 c8_i32_130
  let v230 : BitVec 32 := Scalar.addi c0_i32_131 v229
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_132 : BitVec 32 := 4#32
  let v231 : BitVec 32 := Scalar.muli v10 c4_i32_132
  let v232 : BitVec 32 := Scalar.addi v230 v231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_133 : BitVec 32 := 1#32
  let v233 : BitVec 32 := Scalar.muli v8 c1_i32_133
  let v234 : BitVec 32 := Scalar.addi v232 v233
  v234.toNat
def k0_dev9 (d0 : Dev nD) : Nat :=
  let c0_i32_149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_148 : BitVec 32 := 8#32
  let v255 : BitVec 32 := Scalar.muli v2 c8_i32_148
  let v256 : BitVec 32 := Scalar.addi c0_i32_149 v255
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_150 : BitVec 32 := 4#32
  let v257 : BitVec 32 := Scalar.muli v10 c4_i32_150
  let v258 : BitVec 32 := Scalar.addi v256 v257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v259 : BitVec 32 := Scalar.muli v8 c1_i32_151
  let v260 : BitVec 32 := Scalar.addi v258 v259
  v260.toNat
def k0_dev10 (d0 : Dev nD) : Nat :=
  let c0_i32_167 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_166 : BitVec 32 := 8#32
  let v281 : BitVec 32 := Scalar.muli v2 c8_i32_166
  let v282 : BitVec 32 := Scalar.addi c0_i32_167 v281
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_168 : BitVec 32 := 4#32
  let v283 : BitVec 32 := Scalar.muli v10 c4_i32_168
  let v284 : BitVec 32 := Scalar.addi v282 v283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_169 : BitVec 32 := 1#32
  let v285 : BitVec 32 := Scalar.muli v8 c1_i32_169
  let v286 : BitVec 32 := Scalar.addi v284 v285
  v286.toNat
def k0_off7 (d0 : Dev nD) (c0_i32_71 : BitVec 32) : Fin 2 → Nat :=
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.subi c1_i32_14 v2
  let c512_i32_15 : BitVec 32 := 512#32
  let v26 : BitVec 32 := Scalar.muli v25 c512_i32_15
  let c256_i32_16 : BitVec 32 := 256#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v27 : BitVec 32 := Scalar.muli v5 c256_i32
  let v28 : BitVec 32 := Scalar.subi c256_i32_16 v27
  let v131 : BitVec 32 := Scalar.addi v26 v28
  let v132 : BitVec 32 := Scalar.addi v131 c0_i32_71
  let c0_i32_178 : BitVec 32 := 0#32
  ![v132.toNat, 0]
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x512 : Shape := ⟨2, ![1024, 512]⟩

abbrev nBuf : Space → Nat
  | .hbm => 1
  | .vmem => 0
  | .smem => 0
  | _ => 0

abbrev bufTy : (tb : Table) → Fin (tcTables nBuf tb) → BufTy
  | .hbm, ⟨0, _⟩ => ⟨S1024x512, .bf16⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Strips.lean ====
/-
The mesh, the sixteen strips of the output buffer, and what each device's output buffer finally holds.

Device `8x + 4y + z` of the 2×2×4 mesh is at coordinates `(x, y, z)`. Every device works with two partners only: the one with
the other `x` and the one with the other `y`. The 1024×512 output buffer is cut in sixteen strips of 64 rows, and seen from one
device the strips fall in four groups of four (`quad`):

* group 0 — the strips the device fills itself and sends across `x`,
* group 1 — the strips the device fills itself and keeps,
* group 2 — the strips its `x` partner sends it, which it passes on across `y`,
* group 3 — the strips its `y` partner sends it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Value
public import Idealize.ShloMosaic.Lib.Pipeline.Kit
public import Idealize.ShloMosaic.Lib.Ring
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Partners -/

set_option backward.proofsInPublic true in
/-- The device with the other `x` coordinate. -/
def px (c : Dev nD) : Dev nD := ⟨(c.val + 8) % 16, Nat.mod_lt _ (by decide)⟩
set_option backward.proofsInPublic true in
/-- The device with the other `y` coordinate. -/
def py (c : Dev nD) : Dev nD := ⟨8 * (c.val / 8) + (c.val % 8 + 4) % 8, by have : c.val < 16 := c.isLt; show _ < 16; omega⟩

/-- Taking the `x` partner twice leads back. -/
theorem px_px (c : Dev nD) : px (px c) = c := by revert c; decide
/-- Taking the `y` partner twice leads back. -/
theorem py_py (c : Dev nD) : py (py c) = c := by revert c; decide
/-- The two partners are different devices. -/
theorem px_ne_py (c : Dev nD) : px c ≠ py c := by revert c; decide

/-- The exchange across `x` as a permutation of the devices. -/
def flipX : Dev nD ≃ Dev nD := ⟨px, px, px_px, px_px⟩
/-- The exchange across `y` as a permutation of the devices. -/
def flipY : Dev nD ≃ Dev nD := ⟨py, py, py_py, py_py⟩

/-- The word the program computes for the first signal's target names the `x` partner. -/
theorem dev1_eq (c : Dev nD) : (⟨k0_dev1 c, k0_dev1_lt c⟩ : Dev nD) = px c := by revert c; decide +kernel
/-- The second signal's target is the `y` partner. -/
theorem dev2_eq (c : Dev nD) : (⟨k0_dev2 c, k0_dev2_lt c⟩ : Dev nD) = py c := by revert c; decide +kernel

/-! ## Strips -/

set_option backward.proofsInPublic true in
/-- Strip `s` of group `q` as device `c` sees the groups: its number among the sixteen strips of the output buffer. -/
def quad (c : Dev nD) (q s : Fin 4) : Fin 16 :=
  ⟨8 * ((c.val / 8 + q.val / 2) % 2) + 4 * ((c.val / 4 + q.val) % 2) + s.val, by have := s.isLt; omega⟩

/-- What device `c` sends across `x` lands among the strips its `x` partner receives from there. -/
theorem quad_px (c : Dev nD) (s : Fin 4) : quad (px c) 2 s = quad c 0 s := by revert c s; decide
/-- and the other way round. -/
theorem quad_px' (c : Dev nD) (s : Fin 4) : quad (px c) 0 s = quad c 2 s := by revert c s; decide
/-- What device `c` passes on across `y` lands among the strips its `y` partner receives from there. -/
theorem quad_py (c : Dev nD) (s : Fin 4) : quad (py c) 3 s = quad c 2 s := by revert c s; decide
/-- and the other way round. -/
theorem quad_py' (c : Dev nD) (s : Fin 4) : quad (py c) 2 s = quad c 3 s := by revert c s; decide

/-- The strips of the four groups are all different. -/
theorem quad_injective (c : Dev nD) : Function.Injective (fun qs : Fin 4 × Fin 4 => quad c qs.1 qs.2) := by revert c; decide
/-- Every strip is in one of the four groups. -/
theorem quad_surjective (c : Dev nD) : Function.Surjective (fun qs : Fin 4 × Fin 4 => quad c qs.1 qs.2) := by revert c; decide

/-- The four groups as a re-numbering of the sixteen strips. -/
def quadEquiv (c : Dev nD) : Fin 4 × Fin 4 ≃ Fin 16 := Equiv.ofBijective _ ⟨quad_injective c, quad_surjective c⟩

/-- The rows the program computes for the strips it sends across `x`. -/
theorem off2_row (c : Dev nD) (s : Fin 4) : k0_off2 c (BitVec.ofNat 32 (64 * s.val)) = ![64 * (quad c 0 s).val, 0] := by
  revert c s; decide +kernel
/-- The same rows, as its transfers name them. -/
theorem off3_row (c : Dev nD) (s : Fin 4) : k0_off3 c (BitVec.ofNat 32 (64 * s.val)) = ![64 * (quad c 0 s).val, 0] := by
  revert c s; decide +kernel
/-- The rows of the strips it keeps. -/
theorem off5_row (c : Dev nD) (s : Fin 4) : k0_off5 c (BitVec.ofNat 32 (64 * s.val)) = ![64 * (quad c 1 s).val, 0] := by
  revert c s; decide +kernel
/-- The rows of the strips it receives across `x`. -/
theorem off6_row (c : Dev nD) (s : Fin 4) : k0_off6 c (BitVec.ofNat 32 (64 * s.val)) = ![64 * (quad c 2 s).val, 0] := by
  revert c s; decide +kernel
/-- The rows of the strips it receives across `y`. -/
theorem off7_row (c : Dev nD) (s : Fin 4) : k0_off7 c (BitVec.ofNat 32 (64 * s.val)) = ![64 * (quad c 3 s).val, 0] := by
  revert c s; decide +kernel
/-- The rows of the input block that fill the strips sent across `x`: the strip's rows, counted within its half. -/
theorem off1_row (c : Dev nD) (s : Fin 4) : k0_off1 c (BitVec.ofNat 32 (64 * s.val)) = ![64 * (quad c 0 s).val % 512, 0] := by
  revert c s; decide +kernel
/-- The rows of the input block that fill the strips kept. -/
theorem off4_row (c : Dev nD) (s : Fin 4) : k0_off4 c (BitVec.ofNat 32 (64 * s.val)) = ![64 * (quad c 1 s).val % 512, 0] := by
  revert c s; decide +kernel

/-- The input block's staging buffer. -/
abbrev xM : Memref sig .tc .vmem S512x512 .bf16 := Memref.whole cc0_stg0_0
/-- The output buffer. -/
abbrev oM : Memref sig .tc .vmem S1024x512 .bf16 := Memref.whole cc0_stg1_0

/-- A strip's rows are rows of the output buffer. -/
theorem strip_inb (k : Fin 16) : ∀ a, (![64 * k.val, 0] : Fin 2 → Nat) a + S64x512.size a ≤ S1024x512.size a := by
  revert k; decide
/-- The rows of the input block a strip is filled from are in range. -/
theorem strip_src_inb (k : Fin 16) : ∀ a, (![64 * k.val % 512, 0] : Fin 2 → Nat) a + S64x512.size a ≤ S512x512.size a := by
  revert k; decide

/-- Strip `k`'s rectangle in the output buffer, -/
abbrev stripR (k : Fin 16) : Rect S1024x512 := Rect.unit (s := S1024x512) ![64 * k.val, 0] S64x512.size (strip_inb k)
/-- and the view of it. -/
abbrev sM (k : Fin 16) : Memref sig .tc .vmem S64x512 .bf16 := oM.slice (stripR k) (fun _ => rfl)
/-- The rows of the input block strip `k` is filled from. -/
abbrev srcR (k : Fin 16) : Rect S512x512 := Rect.unit (s := S512x512) ![64 * k.val % 512, 0] S64x512.size (strip_src_inb k)

/-- The elements of strip `k`. -/
abbrev I (k : Fin 16) : Finset S1024x512.Idx := (sM k).view.set

/-- They are those of its rectangle. -/
theorem I_eq (k : Fin 16) : I k = (stripR k).set := View.set_slice_whole _ _

/-- An element is in strip `k` when its row, divided by 64, is `k`. -/
theorem mem_I {k : Fin 16} {i : S1024x512.Idx} : i ∈ I k ↔ (i (0 : Fin 2)).val / 64 = k.val := by
  rw [I_eq]
  refine Rect.mem_set_unit.trans ⟨fun h => ?_, fun h a => ?_⟩
  · have h0 := h (0 : Fin 2)
    have e : S64x512.size (0 : Fin 2) = 64 := rfl
    simp only [Matrix.cons_val_zero, e] at h0
    omega
  · fin_cases a
    · have e : S64x512.size (0 : Fin 2) = 64 := rfl
      simp only [Fin.zero_eta, Matrix.cons_val_zero, e]
      omega
    · have e : S64x512.size (1 : Fin 2) = 512 := rfl
      have h1 : (i (1 : Fin 2)).val < 512 := (i (1 : Fin 2)).isLt
      simp only [Fin.mk_one, Matrix.cons_val_one, Matrix.cons_val_fin_one, e]
      omega

/-- Different strips share no element. -/
theorem I_disjoint (k k' : Fin 16) (h : k ≠ k') : Disjoint (I k) (I k') :=
  Finset.disjoint_left.2 fun _ hi hi' => h (Fin.ext ((mem_I.1 hi).symm.trans (mem_I.1 hi')))

/-- The strips cover the output buffer. -/
theorem I_cover : Finset.univ.biUnion I = Finset.univ := by
  refine Finset.eq_univ_of_forall fun i => Finset.mem_biUnion.2 ?_
  have h0 : (i (0 : Fin 2)).val < 1024 := (i (0 : Fin 2)).isLt
  exact ⟨⟨(i (0 : Fin 2)).val / 64, by omega⟩, Finset.mem_univ _, mem_I.2 rfl⟩

/-! ## Contents -/

variable {F : FTy → Type} [FloatOps F]
variable (m : (ℓ : Loc nD τ sig) → Buf (Elt F) ℓ)

/-- Device `c`'s block of the input, as its staging buffer holds it. -/
def xstg (c : Dev nD) : (cc0_stg0_0 : Ref sig .tc).ty.Contents (Elt F) :=
  (win0_0.blk (0 : Fin 1)).view.read (Elt F) (m ((c : Thread nD τ).loc main_arg0))

/-- The device whose input block fills strip `k` of device `c`'s output. -/
def srcDev (c : Dev nD) (k : ℕ) : Dev nD :=
  if k / 8 = c.val / 8 then c else if (k / 4) % 2 = (c.val / 4) % 2 then px c else px (py c)

set_option backward.proofsInPublic true in
/-- The place in an input block that an element of the output comes from: its row within its half, its column. -/
def within (i : S1024x512.Idx) : S512x512.Idx := fun a => match a with
  | ⟨0, _⟩ => ⟨(i (0 : Fin 2)).val % 512, Nat.mod_lt _ (by decide)⟩
  | ⟨1, _⟩ => ⟨(i (1 : Fin 2)).val, (i (1 : Fin 2)).isLt⟩

/-- What device `c`'s output buffer finally holds: in every strip the rows of its source device's input block. -/
def out (c : Dev nD) : (cc0_stg1_0 : Ref sig .tc).ty.Contents (Elt F) :=
  fun i : S1024x512.Idx => (xstg m (srcDev c ((i (0 : Fin 2)).val / 64)) : S512x512.Idx → Elt F .bf16) (within i)

/-- The strips a device sends come from its own input, -/
theorem srcDev_own (c : Dev nD) (s : Fin 4) : srcDev c (quad c 0 s).val = c := by revert c s; decide
/-- and so do those it keeps. -/
theorem srcDev_kept (c : Dev nD) (s : Fin 4) : srcDev c (quad c 1 s).val = c := by revert c s; decide
/-- A strip sent across `x` has the same source on both sides. -/
theorem srcDev_px (c : Dev nD) (s : Fin 4) : srcDev (px c) (quad c 0 s).val = srcDev c (quad c 0 s).val := by revert c s; decide
/-- A strip passed on across `y` has the same source on both sides. -/
theorem srcDev_py (c : Dev nD) (s : Fin 4) : srcDev (py c) (quad c 2 s).val = srcDev c (quad c 2 s).val := by revert c s; decide
/-- Whatever the strip, its source has the `x` coordinate that names the strip's half. -/
theorem srcDev_half (c : Dev nD) (k : Fin 16) : (srcDev c k.val).val / 8 = k.val / 8 := by revert c k; decide

omit [FloatOps F] in
/-- Two devices with the same source for strip `k` finally hold the same in it. -/
theorem out_agree {c c' : Dev nD} {k : Fin 16} (h : srcDev c' k.val = srcDev c k.val) : ∀ i ∈ I k, out m c' i = out m c i := by
  intro i hi
  unfold out
  rw [mem_I.1 hi, h]

omit [FloatOps F] in
/-- Filling strip `k` from the rows of the source device's input block leaves it as `out` says. -/
theorem out_filled {c : Dev nD} {k : Fin 16} (h : srcDev c k.val = c) (f : (cc0_stg1_0 : Ref sig .tc).ty.Contents (Elt F)) :
    ∀ i ∈ I k, (oM.access (stripR k)).write (Elt F) f (xM.view.readAt (Elt F) (srcR k).toLoadRect (xstg m c)) Finset.univ i = out m c i := by
  intro i hi
  obtain ⟨x, -, rfl⟩ := Finset.mem_map.1 hi
  refine ((oM.access (stripR k)).write_emb_of_mem (Val := Elt F) f _ (Finset.mem_univ x)).trans ?_
  unfold out
  rw [mem_I.1 hi, h]
  show xstg m c _ = xstg m c _
  congr 1
  have h1 : (x (0 : Fin 2)).val < 64 := (x (0 : Fin 2)).isLt
  have hk := k.isLt
  funext a
  apply Fin.ext
  fin_cases a
  · show 64 * k.val % 512 + 1 * (x (0 : Fin 2)).val = (64 * k.val + 1 * (x (0 : Fin 2)).val) % 512
    omega
  · rfl

omit [FloatOps F] in
/-- A copy of strip `k` from device `c` to a device with the same source for it leaves it there as `out` says. -/
theorem out_landed {c c' : Dev nD} {k : Fin 16} (h : srcDev c' k.val = srcDev c k.val) (f : (cc0_stg1_0 : Ref sig .tc).ty.Contents (Elt F)) :
    ∀ i ∈ I k, (sM k).view.write (Elt F) f ((sM k).view.read (Elt F) (out m c)) Finset.univ i = out m c' i := by
  intro i hi
  rw [out_agree m h i hi]
  obtain ⟨x, -, rfl⟩ := Finset.mem_map.1 hi
  exact ((sM k).view.write_emb_of_mem (Val := Elt F) f _ (Finset.mem_univ x)).trans (by rw [View.read_apply, cast_cast, cast_eq])

end Cert.Gather

end
-- ==== Proof.Schedule.lean ====
/-
The semaphores of the exchange, who pays which of them, and what each payment hands over.

Seventeen semaphores take part on every device: the barrier semaphore, and four families of four transfer semaphores, one per
strip of a group — family 0 signals that a send across `x` has left its source, family 1 that a strip has arrived across `x`,
families 2 and 3 the same across `y`. Each has a single round. The two partners pay the barrier semaphore one unit each, and
with the unit they hand over the strips of their own output buffer that the device is going to write; a transfer semaphore is
paid once, by the transfer, and hands the strip over with its final contents.
-/
module

public import proofs.«01_k».proof.Proof.Strips
public import Idealize.ShloMosaic.Lib.Pipeline.Launch

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's own rounds, and the exchange's -/

/-- The rounds of the exchange: two duties at most on a semaphore, told apart by a truth value. -/
abbrev UX : Type := URounds (GSem nD τ sig) Bool
/-- The pipeline's rounds beside those of the exchange. -/
abbrev UU : Type := UR sig nD τ × UX

local notation "𝕄" => MT nD τ sig Unit (Elt F) ℕ UU ℕ

/-- Where the pipeline's rounds lie in the ghost state, -/
abbrev EP : Emb (UR sig nD τ) (MT nD τ sig Unit (Elt F) ℕ UU ℕ) := embL
/-- and where those of the exchange do. -/
abbrev EX : Emb UX (MT nD τ sig Unit (Elt F) ℕ UU ℕ) := embR

variable (m : (ℓ : Loc nD τ sig) → Buf (Elt F) ℓ)

/-! ## Semaphores -/

/-- The barrier semaphore. -/
abbrev barS : Sem sig := (SemArray.scalar (sig.barrier 0 rfl) : Sems sig S_).sem
/-- A device's barrier semaphore. -/
abbrev barCell (c : Dev nD) : GSem nD τ sig := ((c : Thread nD τ), .reg barS)

set_option backward.proofsInPublic true in
/-- The transfer semaphore of family `k` for strip `s`. -/
def xsem (k s : Fin 4) : DmaSem sig := ⟨2 + 4 * k.val + s.val, by have := k.isLt; have := s.isLt; show _ < 18; omega⟩
/-- A device's transfer semaphore of family `k` for strip `s`. -/
abbrev xcell (c : Dev nD) (k s : Fin 4) : GSem nD τ sig := ((c : Thread nD τ), .dma (xsem k s))

set_option backward.proofsInPublic true in
/-- The family a transfer semaphore belongs to, -/
def famOf (q : DmaSem sig) : Fin 4 := ⟨(q.val - 2) / 4, by have : q.val < 18 := q.isLt; omega⟩
set_option backward.proofsInPublic true in
/-- and the strip it is for. -/
def slotOf (q : DmaSem sig) : Fin 4 := ⟨(q.val - 2) % 4, Nat.mod_lt _ (by decide)⟩

/-- Reading the family back, -/
theorem famOf_xsem (k s : Fin 4) : famOf (xsem k s) = k := by revert k s; decide
/-- and the strip. -/
theorem slotOf_xsem (k s : Fin 4) : slotOf (xsem k s) = s := by revert k s; decide

/-- The transfer semaphores are all different. -/
theorem xsem_inj {k s k' s' : Fin 4} (h : xsem k s = xsem k' s') : k = k' ∧ s = s' :=
  ⟨by rw [← famOf_xsem k s, h, famOf_xsem], by rw [← slotOf_xsem k s, h, slotOf_xsem]⟩

/-- Two devices' transfer semaphores are the same one only for the same device, family and strip. -/
theorem xcell_eq_iff {a b : Dev nD} {k s k' s' : Fin 4} : xcell a k s = xcell b k' s' ↔ a = b ∧ k = k' ∧ s = s' := by
  constructor
  · intro h
    have h1 : a = b := Fin.ext (congrArg (fun g : GSem nD τ sig => g.1.1.val) h)
    have h2 : SemLoc.dma (xsem k s) = SemLoc.dma (xsem k' s') := congrArg Prod.snd h
    exact ⟨h1, xsem_inj (SemLoc.dma.inj h2)⟩
  · rintro ⟨rfl, rfl, rfl⟩; rfl

/-- Two barrier semaphores are the same one only for the same device, -/
theorem barCell_eq_iff {a b : Dev nD} : barCell a = barCell b ↔ a = b :=
  ⟨fun h => Fin.ext (congrArg (fun g : GSem nD τ sig => g.1.1.val) h), fun h => h ▸ rfl⟩

/-- and none is a transfer semaphore. -/
theorem xcell_ne_bar {a b : Dev nD} {k s : Fin 4} : xcell a k s ≠ barCell b := fun h => by
  have h2 : SemLoc.dma (xsem k s) = SemLoc.reg barS := congrArg Prod.snd h
  cases h2

/-- The group of strips a family of semaphores is about: sends across `x` concern group 0, arrivals across `x` and the sends
    across `y` that pass them on group 2, arrivals across `y` group 3. -/
def grp : Fin 4 → Fin 4 := ![0, 2, 2, 3]

/-- The units one strip's transfer is worth. -/
abbrev N : ℕ := (sM 0).view.dmaCredit
/-- A transfer is worth something. -/
theorem N_pos : 0 < N := View.dmaCredit_pos _ (by decide)

/-! ## Strips held -/

/-- Device `c` holds strip `k` of its output buffer, with contents `f` there. -/
def strip (c : Dev nD) (k : Fin 16) (f : Buf (Elt F) ((sM k).view.loc (c : Thread nD τ))) : sProp 𝕄 :=
  (sM k).view.loc (c : Thread nD τ) ↦[(sM k).view.set]{fullShare} f

omit [FloatOps F] in
/-- A strip may be kept in an invariant. -/
instance strip_storable (c : Dev nD) (k : Fin 16) (f) : BI.Storable (upEmb : UEmb _ 𝕄) (strip (F := F) c k f) := by
  unfold strip; infer_instance

omit [FloatOps F] in
/-- Only the contents of the strip itself count. -/
theorem strip_congr {c : Dev nD} {k : Fin 16} {f g : (cc0_stg1_0 : Ref sig .tc).ty.Contents (Elt F)} (h : ∀ i ∈ I k, f i = g i) :
    (strip c k f : sProp 𝕄) = strip c k g := pointsTo_congr h

omit [FloatOps F] in
/-- A device's whole output buffer is its sixteen strips, by groups. -/
theorem strips_of_buffer (c : Dev nD) (f : (cc0_stg1_0 : Ref sig .tc).ty.Contents (Elt F)) :
    (((c : Thread nD τ).loc cc0_stg1_0) ↦{fullShare} f : sProp 𝕄)
      = bigSep Finset.univ fun q : Fin 4 => bigSep Finset.univ fun s : Fin 4 => strip c (quad c q s) f := by
  rw [← BI.bigSep_univ_prod (fun qs : Fin 4 × Fin 4 => (strip c (quad c qs.1 qs.2) f : sProp 𝕄))]
  exact (Ring.pointsTo_blocks (ℓ := (c : Thread nD τ).loc cc0_stg1_0) I I_disjoint I_cover f).trans
    (BI.bigSep_univ_equiv (quadEquiv c) (fun k : Fin 16 => (strip c k f : sProp 𝕄)))

/-! ## The schedule -/

/-- What the `x` partner hands device `c` with its barrier unit: its own four strips that `c` is going to write. -/
def handX (c : Dev nD) : sProp 𝕄 := bigSep Finset.univ fun s : Fin 4 => iprop(∃ f, strip (px c) (quad c 0 s) f)
/-- What the `y` partner hands device `c` with its barrier unit. -/
def handY (c : Dev nD) : sProp 𝕄 := bigSep Finset.univ fun s : Fin 4 => iprop(∃ f, strip (py c) (quad c 2 s) f)
/-- What a transfer semaphore hands device `c`: the strip it is about, holding what it finally holds. -/
def filled (c : Dev nD) (k s : Fin 4) : sProp 𝕄 := strip c (quad c (grp k) s) (out m c)

/-- One round: a barrier semaphore has the two duties `false` (the `x` partner's) and `true` (the `y` partner's) of a unit
    each, a transfer semaphore the one duty `false` of a strip's worth. -/
def sched : Rounds.Schedule (GSem nD τ sig) Bool 𝕄 where
  duties g r := if r = 0 ∧ g.1.2 = .tc then (match g.2 with | .reg s => if s = barS then Finset.univ else ∅ | .dma q => if 2 ≤ q.val then {false} else ∅) else ∅
  unitless _ := False
  amount g _ _ := match g.2 with | .reg _ => 1 | .dma _ => N
  payload g _ d := match g.2 with
    | .reg _ => if d then handY g.1.1 else handX g.1.1
    | .dma q => filled m g.1.1 (famOf q) (slotOf q)
  amount_pos g _ _ _ := by
    rcases g with ⟨t, s | q⟩
    · exact Nat.one_pos
    · exact N_pos

/-- So may everything a semaphore hands over. -/
instance sched_storable (g : GSem nD τ sig) (r : ℕ) (d : Bool) :
    BI.Storable (upEmb : UEmb _ 𝕄) ((sched (F := F) m).payload g r d) := by
  rcases g with ⟨t, s | q⟩
  · show BI.Storable upEmb (if d then handY t.1 else handX t.1)
    unfold handX handY
    split <;> infer_instance
  · show BI.Storable upEmb (filled m t.1 (famOf q) (slotOf q))
    unfold filled
    infer_instance

section Tables
variable (c : Dev nD) (k s : Fin 4)

omit [FloatOps F] in
/-- The tables of the schedule: a barrier semaphore has both duties, -/
theorem duties_bar : (sched (F := F) m).duties (barCell c) 0 = Finset.univ := by
  dsimp only [sched]; rw [if_pos ⟨rfl, rfl⟩, if_pos rfl]
omit [FloatOps F] in
/-- a transfer semaphore one; -/
theorem duties_x : (sched (F := F) m).duties (xcell c k s) 0 = {false} := by
  dsimp only [sched]; rw [if_pos ⟨rfl, rfl⟩]; exact if_pos (by show 2 ≤ 2 + 4 * k.val + s.val; omega)
omit [FloatOps F] in
/-- No semaphore has a second round. -/
theorem duties_later (g : GSem nD τ sig) : ∀ r, 1 ≤ r → (sched (F := F) m).duties g r = ∅ :=
  fun r hr => by dsimp only [sched]; exact if_neg fun h => by omega

omit [FloatOps F] in
/-- a barrier duty is one unit, -/
theorem amount_bar (d : Bool) : (sched (F := F) m).amount (barCell c) 0 d = 1 := rfl
omit [FloatOps F] in
/-- a transfer is a strip's worth; -/
theorem amount_x (d : Bool) : (sched (F := F) m).amount (xcell c k s) 0 d = N := rfl

omit [FloatOps F] in
/-- a barrier semaphore expects two units, -/
theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
/-- a transfer semaphore one strip's worth; -/
theorem expect_x : (sched (F := F) m).expect (xcell c k s) 0 = N := by
  unfold Schedule.expect Schedule.amountOf; rw [duties_x, Finset.sum_singleton, amount_x]

omit [FloatOps F] in
/-- the `x` partner hands over the strips it is going to be sent, -/
theorem payload_bar_x : (sched (F := F) m).payload (barCell c) 0 false = handX c := rfl
omit [FloatOps F] in
/-- so does the `y` partner, -/
theorem payload_bar_y : (sched (F := F) m).payload (barCell c) 0 true = handY c := rfl
omit [FloatOps F] in
/-- and a transfer hands over its strip, filled. -/
theorem payload_x (d : Bool) : (sched (F := F) m).payload (xcell c k s) 0 d = filled m c k s := by
  show filled m c (famOf (xsem k s)) (slotOf (xsem k s)) = _
  rw [famOf_xsem, slotOf_xsem]

omit [FloatOps F] in
/-- Waiting for both units of the barrier brings what both partners handed over. -/
theorem rest_bar : bigSep ((sched (F := F) m).duties (barCell c) 0 \ ∅) (fun d => (sched (F := F) m).payload (barCell c) 0 d)
    = iprop(handX c ∗ handY c) := by
  rw [Finset.sdiff_empty, duties_bar, bigSep_univ_eq_bigSepL [false, true] (by decide) (by decide), bigSepL_cons_cons, bigSepL_singleton]
  rfl
omit [FloatOps F] in
/-- Waiting for a transfer brings its strip. -/
theorem rest_x : bigSep ((sched (F := F) m).duties (xcell c k s) 0 \ ∅) (fun d => (sched (F := F) m).payload (xcell c k s) 0 d)
    = filled m c k s := by
  rw [Finset.sdiff_empty, duties_x, bigSep_singleton, payload_x]

end Tables

/-! ## Debts and levels -/

set_option backward.proofsInPublic true in
/-- What is still owed when `n` of four debts `f 0`, …, `f 3` are left, the ones with the smaller numbers having been paid first,
    on top of whatever else is owed. -/
def left (f : Fin 4 → CellTallies nD τ sig Unit) (O : CellTallies nD τ sig Unit) : ℕ → CellTallies nD τ sig Unit
  | 0 => O
  | n + 1 => left f O n + f ⟨3 - n, by omega⟩

/-- What the transfer of one strip into the `x` partner owes: a strip's worth to its arrival semaphore. -/
def debtX (c : Dev nD) (s : Fin 4) : CellTallies nD τ sig Unit := tallyAt (xcell (px c) 1 s) () N
/-- The same for the transfers into the `y` partner. -/
def debtY (c : Dev nD) (s : Fin 4) : CellTallies nD τ sig Unit := tallyAt (xcell (py c) 3 s) () N

/-- What a device still owes once all its sends across `x` are made: its sends across `y`. -/
def O₃ (c : Dev nD) : CellTallies nD τ sig Unit := left (debtY c) 0 4
/-- What it owes once the barrier units are paid: its sends across `x` besides. -/
def O₂ (c : Dev nD) : CellTallies nD τ sig Unit := left (debtX c) (O₃ c) 4
/-- What it owes after the first barrier unit. -/
def O₁ (c : Dev nD) : CellTallies nD τ sig Unit := O₂ c + tallyAt (barCell (py c)) () 1
/-- What it owes at the start: a unit to either partner's barrier, and eight transfers. -/
def O₀ (c : Dev nD) : CellTallies nD τ sig Unit := O₁ c + tallyAt (barCell (px c)) () 1

/-- The one index there is, on the semaphores of the devices' cores. -/
def L (g : GSem nD τ sig) : Finset Unit := if g.1.2 = .tc then {()} else ∅
/-- The order in which waits may depend on each other: barrier semaphores at 1, arrivals across `x` at 2, arrivals across `y`
    at 3, everything else at 0. -/
def lv (g : GSem nD τ sig) (_ : Unit) : ℕ := match g.2 with
  | .reg _ => 1
  | .dma q => (![0, 2, 0, 3] : Fin 4 → ℕ) (famOf q)

/-- Other semaphores have no index. -/
theorem L_of_ne (g : GSem nD τ sig) (h : g.1.2 ≠ .tc) : L g = ∅ := if_neg h
/-- Those of the cores have one. -/
theorem L_tc (c : Dev nD) (sm : SemLoc sig) : L ((c : Thread nD τ), sm) = {()} := if_pos rfl
/-- The level of a transfer semaphore goes by its family. -/
theorem lv_x (c : Dev nD) (k s : Fin 4) : lv (xcell c k s) () = (![0, 2, 0, 3] : Fin 4 → ℕ) k := by
  show (![0, 2, 0, 3] : Fin 4 → ℕ) (famOf (xsem k s)) = _
  rw [famOf_xsem]

/-- Everything owed in `O` is to semaphores above level `n`. -/
def Above (n : ℕ) (O : CellTallies nD τ sig Unit) : Prop := ∀ g u, 0 < O g u → g.1.2 = .tc ∧ n < lv g u

/-- Nothing owed is above every level. -/
theorem above_zero (n : ℕ) : Above n 0 := fun g u h => absurd h (Nat.lt_irrefl 0)
/-- Debts above a level add up to debts above it. -/
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
/-- A debt to one semaphore is above the levels below that semaphore's. -/
theorem above_tally {n j : ℕ} {c : Dev nD} {sm : SemLoc sig} (h : n < lv ((c : Thread nD τ), sm) ()) :
    Above n (tallyAt ((c : Thread nD τ), sm) () j) := fun g u hg => by
  rw [tallyAt_apply] at hg
  by_cases he : g = ((c : Thread nD τ), sm) ∧ u = ()
  · rw [he.1]; exact ⟨rfl, h⟩
  · rw [if_neg he] at hg; exact absurd hg (Nat.lt_irrefl 0)
/-- What is left of four debts is above a level they are all above. -/
theorem above_left {n : ℕ} {f : Fin 4 → CellTallies nD τ sig Unit} {O : CellTallies nD τ sig Unit} (hf : ∀ s, Above n (f s)) (hO : Above n O) :
    ∀ j, Above n (left f O j)
  | 0 => hO
  | j + 1 => above_add (above_left hf hO j) (hf _)

/-- Transfers across `y` are above the levels below 3, -/
theorem above_debtY {n : ℕ} (hn : n < 3) (c : Dev nD) (s : Fin 4) : Above n (debtY c s) := above_tally (by rw [lv_x]; exact hn)
/-- those across `x` above the levels below 2; -/
theorem above_debtX {n : ℕ} (hn : n < 2) (c : Dev nD) (s : Fin 4) : Above n (debtX c s) := above_tally (by rw [lv_x]; exact hn)
/-- so is what is left of those across `y`, -/
theorem above_leftY {n : ℕ} (hn : n < 3) (c : Dev nD) (j : ℕ) : Above n (left (debtY c) 0 j) := above_left (above_debtY hn c) (above_zero n) j
/-- all four of them, -/
theorem above_O₃ {n : ℕ} (hn : n < 3) (c : Dev nD) : Above n (O₃ c) := above_leftY hn c 4
/-- and all eight transfers are above the levels below 2. -/
theorem above_O₂ {n : ℕ} (hn : n < 2) (c : Dev nD) : Above n (O₂ c) := above_left (above_debtX hn c) (above_O₃ (by omega) c) 4
/-- All that a device owes at the start is above level 0. -/
theorem above_O₀ (c : Dev nD) : Above 0 (O₀ c) :=
  above_add (above_add (above_O₂ (by decide) c) (above_tally (by show 0 < 1; decide))) (above_tally (by show 0 < 1; decide))

omit [FloatOps F] in
/-- A device may wait on a semaphore at level `n` at most while all it owes lies above. -/
theorem mayWait (c : Dev nD) (sm : SemLoc sig) (n : ℕ) (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

end Cert.Gather

end
-- ==== Proof.Steps.lean ====
/-
What one strip's worth of the kernel does: filling a strip from the input block, sending a strip to a partner, and waiting on a
transfer semaphore. Each is stated once, for any device, strip and family; the offsets and the device numbers the program
computes enter as parameters together with the equation that says what they are.
-/
module

public import proofs.«01_k».proof.Proof.Schedule
public import Idealize.ShloMosaic.Lib.Pipeline.Kit
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No recursion in the kernel. -/
abbrev 𝒱₀ : Variants := Variants.none

/-! ## What every device knows of the semaphores -/

/-- The semaphores of one device that take part: the barrier semaphore, and the transfer semaphores by family and strip. -/
abbrev Part : Type := Unit ⊕ (Fin 4 × Fin 4)
/-- The semaphore a name of `Part` stands for, on a given device. -/
def partCell : Dev nD × Part → GSem nD τ sig
  | (c, .inl _) => barCell c
  | (c, .inr (k, s)) => xcell c k s

variable (K : Dev nD × Part → ℕ)

/-- The invariants of all semaphores that take part, and that each has reached its only round. -/
def known : sProp 𝕄 :=
  bigSep Finset.univ fun p : Dev nD × Part => iprop(cellInv EX (sched m) (K p) (partCell p) ∗ reached EX (partCell p) 0)

/-- What is known stays known. -/
instance known_persistent : BI.Persistent (known (F := F) m K) := by
  unfold known; infer_instance

omit [FloatOps F] in
/-- One semaphore's share of what is known. -/
theorem known_at (p : Dev nD × Part) : known (F := F) m K ⊢ iprop(cellInv EX (sched m) (K p) (partCell p) ∗ reached EX (partCell p) 0) :=
  bigSep_elim (Finset.mem_univ p)
omit [FloatOps F] in
/-- A barrier semaphore's share of it, -/
theorem known_bar (c : Dev nD) : known (F := F) m K ⊢ iprop(cellInv EX (sched m) (K (c, .inl ())) (barCell c) ∗ reached EX (barCell c) 0) :=
  known_at m K (c, .inl ())
omit [FloatOps F] in
/-- and a transfer semaphore's. -/
theorem known_x (c : Dev nD) (k s : Fin 4) :
    known (F := F) m K ⊢ iprop(cellInv EX (sched m) (K (c, .inr (k, s))) (xcell c k s) ∗ reached EX (xcell c k s) 0) :=
  known_at m K (c, .inr (k, s))

/-! ## Filling a strip -/

/-- A device holds its staged input block. -/
def xHeld (c : Dev nD) : sProp 𝕄 := ((c : Thread nD τ).loc cc0_stg0_0) ↦{fullShare} xstg m c

section Fill
variable (c : Dev nD)

omit [FloatOps F] in
/-- The elements an access to strip `k` touches are the strip's. -/
theorem strip_load_sub (k : Fin 16) : oM.view.setOn (stripR k).toLoadRect.set ⊆ I k := by
  exact (Finset.map_refl (s := (stripR k).toLoadRect.set)).le.trans (I_eq k).ge
/-- A store into strip `k` touches the strip alone. -/
theorem strip_store_sub (k : Fin 16) : (oM.access (stripR k)).setOn Finset.univ ⊆ I k := subset_rfl

/-- Loading the rows of the input block that belong to strip `k`, then storing them into the strip (the strip's old contents
    being loaded and dropped on the way), leaves the strip with its final contents. -/
theorem wp_fill {k : Fin 16} (hsrc : srcDev c k.val = c) {o₁ o₂ : Fin 2 → Nat}
    (ho₁ : o₁ = ![64 * k.val % 512, 0]) (ho₂ : o₂ = ![64 * k.val, 0])
    {hin₁ : ∀ a, o₁ a + S64x512.size a ≤ S512x512.size a} {hin₂ : ∀ a, o₂ a + S64x512.size a ≤ S1024x512.size a}
    {hl₁ : xM.view.LoadsAt (Rect.unit (s := S512x512) o₁ S64x512.size hin₁).toLoadRect}
    {hl₂ : oM.view.LoadsAt (Rect.unit (s := S1024x512) o₂ S64x512.size hin₂).toLoadRect}
    {hst : (oM.access (Rect.unit (s := S1024x512) o₂ S64x512.size hin₂)).Stores Finset.univ}
    {hmm : (Finset.univ : Finset (Rect.unit (s := S1024x512) o₂ S64x512.size hin₂).shape.Idx) = Finset.univ ∨ ∀ a, (Rect.unit (s := S1024x512) o₂ S64x512.size hin₂).stride a = 1}
    {f : (cc0_stg1_0 : Ref sig .tc).ty.Contents (Elt F)}
    {α : Type} {Q : α → sProp 𝕄} {cont : PUnit → Prog (TpuEff nD τ sig (Elt F) Λ₀ .tc) α} :
    iprop(xHeld m c ∗ strip c k f)
      ⊢ iprop(((xHeld m c ∗ strip c k (out m c)) -∗ wp frame (wpE (defs₀ (F := F)) 𝒱₀ (c : Thread nD τ) none) Set.univ (cont ⟨⟩) Q)
          -∗ wp frame (wpE (defs₀ (F := F)) 𝒱₀ (c : Thread nD τ) none) Set.univ
              (.op (.load xM (Rect.unit (s := S512x512) o₁ S64x512.size hin₁).toLoadRect hl₁) fun v =>
                .op (.load oM (Rect.unit (s := S1024x512) o₂ S64x512.size hin₂).toLoadRect hl₂) fun _ =>
                  .op (.store oM (Rect.unit (s := S1024x512) o₂ S64x512.size hin₂) v Finset.univ hst hmm) cont) Q) := by
  subst ho₁ ho₂
  unfold xHeld strip
  iintro ⟨Hx, Ho⟩ Hk
  iapply (wp_load 𝒱₀ (c : Thread nD τ) none Set.univ (m := xM) (Finset.subset_univ _)) $$ Hx; iintro Hx
  iapply (wp_load 𝒱₀ (c : Thread nD τ) none Set.univ (m := oM) (S := I k) (strip_load_sub k)) $$ Ho; iintro Ho
  iapply (wp_store 𝒱₀ (c : Thread nD τ) none Set.univ (m := oM) (r := stripR k) (Mk := Finset.univ) (S := I k) (strip_store_sub k)) $$ Ho; iintro Ho
  iapply Hk
  isplitl [Hx]; · iexact Hx
  have hfin := strip_congr (F := F) (c := c) (out_filled m hsrc f)
  unfold strip at hfin
  rw [← hfin]
  iexact Ho

end Fill

/-! ## Sending a strip -/

section Send
variable (c : Dev nD)

/-- Sending a strip with its final contents into the same strip of device `p`'s buffer: the send semaphore (family `ks`) will
    hand the source strip back, the arrival semaphore (family `kr`) will hand `p` the strip with the contents `p` wants there. -/
theorem wp_pass (p n : Dev nD) (hn : n = p) (ks kr s : Fin 4) {k : Fin 16} (hk : quad c (grp ks) s = k) (hk' : quad p (grp kr) s = k)
    (hsrc : srcDev p k.val = srcDev c k.val) {o : Fin 2 → Nat} (ho : o = ![64 * k.val, 0])
    {s₁ s₂ : DmaSem sig} (hs₁ : s₁ = xsem ks s) (hs₂ : s₂ = xsem kr s)
    {hin : ∀ a, o a + S64x512.size a ≤ S1024x512.size a}
    {hsc : (oM.slice (Rect.unit (s := S1024x512) o S64x512.size hin) (fun _ => rfl) : Memref sig (Dev.tc n : Thread nD τ).2.kind .vmem S64x512 .bf16).view.ref.isScScratch = false}
    {hws : (oM.slice (Rect.unit (s := S1024x512) o S64x512.size hin) (fun _ => rfl) : Memref sig .tc .vmem S64x512 .bf16).view.WordExact}
    {hwd : (oM.slice (Rect.unit (s := S1024x512) o S64x512.size hin) (fun _ => rfl) : Memref sig .tc .vmem S64x512 .bf16).view.WordExact}
    {hsem : DmaTarget.Typed .vmem (.dma s₂) (.remote (Dev.tc n : Thread nD τ) (oM.slice (Rect.unit (s := S1024x512) o S64x512.size hin) (fun _ => rfl) : Memref sig .tc .vmem S64x512 .bf16) (.dma s₁) hsc)}
    {α : Type} {Q : α → sProp 𝕄} {cont : PUnit → Prog (TpuEff nD τ sig (Elt F) Λ₀ .tc) α}
    {O₀' : CellTallies nD τ sig Unit} (O : CellTallies nD τ sig Unit) (hO : O₀' = O + tallyAt (xcell p kr s) () N) (W : Waits sig Unit) :
    iprop(owes (c : Thread nD τ) O₀' W ∗ known m K ∗ strip c k (out m c) ∗ (∃ f, strip p k f)
        ∗ dutyTok EX (xcell c ks s) 0 false ∗ dutyTok EX (xcell p kr s) 0 false)
      ⊢ iprop(((cred (tallyAt (xcell c ks s) () N) ∗ owes (c : Thread nD τ) O W) -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (oM.slice (Rect.unit (s := S1024x512) o S64x512.size hin) (fun _ => rfl))
                (.remote (Dev.tc n : Thread nD τ) (oM.slice (Rect.unit (s := S1024x512) o S64x512.size hin) (fun _ => rfl)) (.dma s₁) hsc) (.dma s₂) hws hwd hsem) cont) Q) := by
  subst hn ho hs₁ hs₂ hO
  iintro ⟨HO, #HK, Hs, ⟨%f, Hd⟩, Ht₁, Ht₂⟩
  ihave H1 := (known_x m K c ks s) $$ HK
  ihave H2 := (known_x m K n kr s) $$ HK
  icases H1 with ⟨#Hi₁, #Hr₁⟩
  icases H2 with ⟨#Hi₂, #Hr₂⟩
  unfold strip
  have hpay₁ : strip c k (out m c) ⊢ (sched m).payload (xcell c ks s) 0 false := by
    rw [payload_x]; unfold filled; rw [hk]
  have hpay₂ : strip n k ((sM k).view.write (Elt F) f ((sM k).view.read (Elt F) (out m c)) Finset.univ) ⊢ (sched m).payload (xcell n kr s) 0 false := by
    rw [payload_x]; unfold filled; rw [hk', strip_congr (out_landed m hsrc f)]
  unfold strip at hpay₁ hpay₂
  iapply (Rounds.wp_send_pointsTo 𝒱₀ EX (sched m) (c : Thread nD τ) none (κ₁ := K (c, .inr (ks, s))) (κ₂ := K (n, .inr (kr, s)))
    (r₁ := 0) (r₂ := 0) (d₁ := false) (d₂ := false) (fd := f)
    (by rw [duties_x]; exact Finset.mem_singleton_self _) (by rw [duties_x]; exact Finset.mem_singleton_self _)
    () () N rfl (amount_x m c ks s false) (amount_x m n kr s false) O rfl (W := W)
    hpay₁ hpay₂) $$ [Hs Hd HO Ht₁ Ht₂]
  isplitr; · iexact Hi₁
  isplitr; · iexact Hi₂
  isplitl [Hs]; · iexact Hs
  isplitl [Hd]; · iexact Hd
  isplitl [HO]; · iexact HO
  isplitl [Ht₁]; · iexact Ht₁
  isplitr; · iexact Hr₁
  isplitl [Ht₂]; · iexact Ht₂
  iexact Hr₂

/-- Waiting on a transfer semaphore for one strip's worth: the strip comes with its final contents, and the semaphore, whose
    only round is over, stands at zero. -/
theorem wp_arrive (k s : Fin 4) {g : Fin 4} (hg : grp k = g) {s₁ : DmaSem sig} (hs₁ : s₁ = xsem k s) {o₁ o₂ : Fin 2 → Nat}
    {hin₁ : ∀ a, o₁ a + S64x512.size a ≤ S1024x512.size a} {hin₂ : ∀ a, o₂ a + S64x512.size a ≤ S1024x512.size a}
    {hws : (oM.slice (Rect.unit (s := S1024x512) o₁ S64x512.size hin₁) (fun _ => rfl) : Memref sig .tc .vmem S64x512 .bf16).view.WordExact}
    {hwd : (oM.slice (Rect.unit (s := S1024x512) o₂ S64x512.size hin₂) (fun _ => rfl) : Memref sig .tc .vmem S64x512 .bf16).view.WordExact}
    {α : Type} {Q : α → sProp 𝕄} {cont : PUnit → Prog (TpuEff nD τ sig (Elt F) Λ₀ .tc) α}
    {O : CellTallies nD τ sig Unit} (hO : Above ((![0, 2, 0, 3] : Fin 4 → ℕ) k) O) (W : Waits sig Unit) :
    iprop(owes (c : Thread nD τ) O W ∗ known m K ∗ levAts L lv ∗ cred (tallyAt (xcell c k s) () N) ∗ atPos EX (xcell c k s) 0 ∅ 0)
      ⊢ iprop(((owes (c : Thread nD τ) O (insert (.dma (xsem k s), ()) W) ∗ semVal (xcell c k s) 0 ∗ strip c (quad c g s) (out m c))
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.waitDma2 s₁ (oM.slice (Rect.unit (s := S1024x512) o₁ S64x512.size hin₁) (fun _ => rfl))
                (oM.slice (Rect.unit (s := S1024x512) o₂ S64x512.size hin₂) (fun _ => rfl)) hws hwd) cont) Q) := by
  subst hs₁ hg
  iintro ⟨HO, #HK, #Hlev, Hc, Hat⟩ Hk
  ihave H1 := (known_x m K c k s) $$ HK
  icases H1 with ⟨#Hi, -⟩
  iapply (Rounds.wp_wait_rest_token 𝒱₀ EX (sched m) (c : Thread nD τ) none (κ := K (c, .inr (k, s))) (k' := N)
      (wpE_waitDma2_eq 𝒱₀ (c : Thread nD τ) none Set.univ (hsrc := hws) (hdst := hwd)) (Set.mem_univ _) () (O := O) (W := W) (R := 0) (m := 0) (T := ∅)
      ((Nat.zero_add _).trans (expect_x m c k s).symm)) $$ [Hc HO Hat]
  · isplitr; · iexact Hi
    isplitl [Hc]; · iexact Hc
    isplitl [HO]; · iexact HO
    isplitr
    · iapply (mayWait c (.dma (xsem k s)) _ (lv_x c k s).le hO); iexact Hlev
    iexact Hat
  iintro ⟨HO, Hat, -, Hpay⟩
  ihave Hp := (Entails.of_eq (rest_x m c k s)) $$ Hpay
  imod (Rounds.cell_close EX (sched m) (Set.mem_univ (K (c, .inr (k, s)))) (fun h => h) (R := 0 + 1) (duties_later m (xcell c k s))) $$ [Hat] with Hz
  · isplitr; · iexact Hi
    iexact Hat
  iapply Hk
  isplitl [HO]; · iexact HO
  isplitl [Hz]; · iexact Hz
  unfold filled
  iexact Hp

end Send

end Cert.Gather

end
-- ==== Proof.Body.lean ====
/-
One device's run of the kernel body, for any device: from the sixteen strips of its output buffer at arbitrary contents, the
tokens for the units it pays and the credits for the units it is paid, to the whole buffer holding the gathered array and every
semaphore back at zero.
-/
module

public import proofs.«01_k».proof.Proof.Steps
public import proofs.«01_k».proof.Proof.Gen.KernelIdeal.Points

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The devices the program computes -/

/-- The four transfers across `x` go to the `x` partner, -/
theorem dev3_eq (c : Dev nD) : (⟨k0_dev3 c, k0_dev3_lt c⟩ : Dev nD) = px c := by revert c; decide +kernel
/-- the second too, -/
theorem dev4_eq (c : Dev nD) : (⟨k0_dev4 c, k0_dev4_lt c⟩ : Dev nD) = px c := by revert c; decide +kernel
/-- and the third, -/
theorem dev5_eq (c : Dev nD) : (⟨k0_dev5 c, k0_dev5_lt c⟩ : Dev nD) = px c := by revert c; decide +kernel
/-- and the fourth. -/
theorem dev6_eq (c : Dev nD) : (⟨k0_dev6 c, k0_dev6_lt c⟩ : Dev nD) = px c := by revert c; decide +kernel
/-- and the four across `y` to the `y` partner. -/
theorem dev7_eq (c : Dev nD) : (⟨k0_dev7 c, k0_dev7_lt c⟩ : Dev nD) = py c := by revert c; decide +kernel
/-- The second too, -/
theorem dev8_eq (c : Dev nD) : (⟨k0_dev8 c, k0_dev8_lt c⟩ : Dev nD) = py c := by revert c; decide +kernel
/-- and the third, -/
theorem dev9_eq (c : Dev nD) : (⟨k0_dev9 c, k0_dev9_lt c⟩ : Dev nD) = py c := by revert c; decide +kernel
/-- and the fourth. -/
theorem dev10_eq (c : Dev nD) : (⟨k0_dev10 c, k0_dev10_lt c⟩ : Dev nD) = py c := by revert c; decide +kernel

/-! ## What a device starts from and ends with -/

omit [FloatOps F] in
/-- A family of four, member by member. -/
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  simp only [bigSepL_cons_cons, bigSepL_singleton]
  rfl

/-- The tokens device `c` pays with: a unit of either partner's barrier, the arrivals at its partners, and its own sends. -/
def tokens (c : Dev nD) : sProp 𝕄 :=
  iprop(dutyTok EX (barCell (px c)) 0 false ∗ dutyTok EX (barCell (py c)) 0 true
    ∗ (bigSep Finset.univ fun s : Fin 4 => dutyTok EX (xcell c 0 s) 0 false)
    ∗ (bigSep Finset.univ fun s : Fin 4 => dutyTok EX (xcell (px c) 1 s) 0 false)
    ∗ (bigSep Finset.univ fun s : Fin 4 => dutyTok EX (xcell c 2 s) 0 false)
    ∗ (bigSep Finset.univ fun s : Fin 4 => dutyTok EX (xcell (py c) 3 s) 0 false))

/-- Its positions in the rounds of its own semaphores: at the start of the only one. -/
def places (c : Dev nD) : sProp 𝕄 :=
  iprop(atPos EX (barCell c) 0 ∅ 0 ∗ bigSep Finset.univ fun k : Fin 4 => bigSep Finset.univ fun s : Fin 4 => atPos EX (xcell c k s) 0 ∅ 0)

/-- The ghost state device `c` starts from. -/
def ghost (K : Dev nD × Part → ℕ) (c : Dev nD) : sProp 𝕄 := iprop(known m K ∗ places c ∗ tokens c)

/-- The credits for what others pay it: two barrier units, and the arrivals across `x` and across `y`. -/
def credits (c : Dev nD) : sProp 𝕄 :=
  iprop(cred (tallyAt (barCell c) () 2)
    ∗ (bigSep Finset.univ fun s : Fin 4 => cred (tallyAt (xcell c 1 s) () N))
    ∗ (bigSep Finset.univ fun s : Fin 4 => cred (tallyAt (xcell c 3 s) () N)))

/-- What device `c`'s body starts from, besides its staging buffers. -/
def Φ₀ (c : Dev nD) : sProp 𝕄 := iprop((∃ K, ghost m K c) ∗ credits c ∗ levAts L lv)
/-- What it ends with: all its semaphores at zero. -/
def Φ₁ (c : Dev nD) : sProp 𝕄 :=
  iprop(semVal (barCell c) 0 ∗ bigSep Finset.univ fun k : Fin 4 => bigSep Finset.univ fun s : Fin 4 => semVal (xcell c k s) 0)

/-- The pipeline's ledger: the one grid point takes the staged block and leaves the gathered array in the output buffer. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => out m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## What is handed over at the barrier -/

omit [FloatOps F] in
/-- A strip held with known contents is a strip held. -/
theorem strip_any (c : Dev nD) (k : Fin 16) (f : (cc0_stg1_0 : Ref sig .tc).ty.Contents (Elt F)) :
    (strip c k f : sProp 𝕄) ⊢ iprop(∃ g, strip c k g) := by
  iintro H
  iexists f
  iexact H

omit [FloatOps F] in
/-- The strips device `c` hands its `x` partner. -/
theorem handX_px (c : Dev nD) (f : (cc0_stg1_0 : Ref sig .tc).ty.Contents (Elt F)) :
    (bigSep Finset.univ fun s : Fin 4 => (strip c (quad c 2 s) f : sProp 𝕄)) ⊢ handX (px c) := by
  unfold handX
  refine bigSep_mono fun s _ => ?_
  rw [px_px, quad_px']
  exact strip_any c _ f
omit [FloatOps F] in
/-- The strips device `c` hands its `y` partner. -/
theorem handY_py (c : Dev nD) (f : (cc0_stg1_0 : Ref sig .tc).ty.Contents (Elt F)) :
    (bigSep Finset.univ fun s : Fin 4 => (strip c (quad c 3 s) f : sProp 𝕄)) ⊢ handY (py c) := by
  unfold handY
  refine bigSep_mono fun s _ => ?_
  rw [py_py, quad_py']
  exact strip_any c _ f

/-! ## The run of the body -/

variable (K : Dev nD × Part → ℕ)

/-- A device holds a staging buffer whole, with contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxHeartbeats 4000000 in
set_option maxRecDepth 4000 in
/-- The body from the ghost state, the staged input block and the output buffer at any contents. -/
theorem run_body (c : Dev nD) (W : Waits sig Unit) (f : (cc0_stg1_0 : Ref sig .tc).ty.Contents (Elt F)) (Kt : PUnit → sProp 𝕄) :
    iprop((ghost m K c ∗ credits c ∗ levAts L lv ∗ owes (c : Thread nD τ) (O₀ c) W
          ∗ xHeld m c ∗ (((c : Thread nD τ).loc cc0_stg1_0) ↦{fullShare} f))
        ∗ (((∃ W', owes (c : Thread nD τ) 0 W') ∗ Φ₁ c ∗ xHeld m c ∗ (((c : Thread nD τ).loc cc0_stg1_0) ↦{fullShare} out m c)) -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1 cc0_scratch2 cc0_scratch3) Kt := by
  simp only [cc0_body_eq_skeleton]; unfold cc0_body_skel
  simp only [k0_part11_eq_skeleton]; unfold k0_part11_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, wp_deviceId,
    k0_pay1, k0_pay2, k0_pay3, k0_pay4, k0_pay5, k0_pay6, k0_pay7, k0_pay8, shapeCast_self]
  simp only [dev1_eq c, dev2_eq c]
  iintro ⟨⟨Hg, Hcr, #Hlev, HO, Hx, Hout⟩, Hk⟩
  unfold ghost places tokens credits
  icases Hg with ⟨#HK, ⟨aB, aX⟩, tBx, tBy, tSX, tRX, tSY, tRY⟩
  icases Hcr with ⟨cB, cRX, cRY⟩
  -- the output buffer by strips: two groups are handed to the partners
  ihave Hs := (Entails.of_eq ((strips_of_buffer c f).trans (four _))) $$ Hout
  icases Hs with ⟨A, B, C, D⟩
  ihave HC := (handX_px c f) $$ C
  ihave HD := (handY_py c f) $$ D
  unfold O₀
  ihave HBx := (known_bar m K (px c)) $$ HK
  icases HBx with ⟨#Hi1, #Hr1⟩
  iapply (Rounds.wp_signal 𝒱₀ EX (sched m) (c : Thread nD τ) none (dst := (px c : Thread nD τ)) (κ := K (px c, .inl ()))
      (d := false) (by rw [duties_bar]; exact Finset.mem_univ _) ((amount_bar m (px c) false).trans (by decide)) () (O₁ c) rfl)
    $$ [HO tBx HC]
  · isplitr; · iexact Hi1
    isplitl [HO]; · iexact HO
    rw [payload_bar_x]; iframe; iframe #
  iintro HO
  unfold O₁
  ihave HBy := (known_bar m K (py c)) $$ HK
  icases HBy with ⟨#Hi2, #Hr2⟩
  iapply (Rounds.wp_signal 𝒱₀ EX (sched m) (c : Thread nD τ) none (dst := (py c : Thread nD τ)) (κ := K (py c, .inl ()))
      (d := true) (by rw [duties_bar]; exact Finset.mem_univ _) ((amount_bar m (py c) true).trans (by decide)) () (O₂ c) rfl)
    $$ [HO tBy HD]
  · isplitr; · iexact Hi2
    isplitl [HO]; · iexact HO
    rw [payload_bar_y]; iframe; iframe #
  iintro HO
  -- both partners' units, and with them the strips to write on their side
  ihave HB := (known_bar m K c) $$ HK
  icases HB with ⟨#Hi0, -⟩
  iapply (Rounds.wp_wait_rest_token 𝒱₀ EX (sched m) (c : Thread nD τ) none (κ := K (c, .inl ()))
      (wpE_semWait_eq 𝒱₀ (c : Thread nD τ) none Set.univ) (Set.mem_univ _) () (O := O₂ c) (W := W) (R := 0) (m := 0) (T := ∅)
      (by rw [expect_bar]; decide)) $$ [cB HO aB]
  · isplitr; · iexact Hi0
    isplitl [cB]; · iexact cB
    isplitl [HO]; · iexact HO
    isplitr; · iapply (mayWait c (.reg barS) 1 le_rfl (above_O₂ (by decide) c)); iexact Hlev
    iexact aB
  iintro ⟨HO, aB, -, Hpay⟩
  ihave Hp := (Entails.of_eq (rest_bar m c)) $$ Hpay
  icases Hp with ⟨P, R⟩
  imod (Rounds.cell_close EX (sched m) (Set.mem_univ (K (c, .inl ()))) (fun h => h) (R := 0 + 1) (duties_later m (barCell c))) $$ [aB] with zB
  · isplitr; · iexact Hi0
    iexact aB
  -- everything strip by strip
  unfold handX handY
  simp only [four]
  icases aX with ⟨⟨aSX0, aSX1, aSX2, aSX3⟩, ⟨aRX0, aRX1, aRX2, aRX3⟩, ⟨aSY0, aSY1, aSY2, aSY3⟩, ⟨aRY0, aRY1, aRY2, aRY3⟩⟩
  icases tSX with ⟨tSX0, tSX1, tSX2, tSX3⟩
  icases tRX with ⟨tRX0, tRX1, tRX2, tRX3⟩
  icases tSY with ⟨tSY0, tSY1, tSY2, tSY3⟩
  icases tRY with ⟨tRY0, tRY1, tRY2, tRY3⟩
  icases cRX with ⟨cRX0, cRX1, cRX2, cRX3⟩
  icases cRY with ⟨cRY0, cRY1, cRY2, cRY3⟩
  icases A with ⟨A0, A1, A2, A3⟩
  icases B with ⟨B0, B1, B2, B3⟩
  icases P with ⟨P0, P1, P2, P3⟩
  icases R with ⟨R0, R1, R2, R3⟩
  -- the device's own half, first the strips it sends across `x`, then the ones it keeps
  iapply (wp_fill m c (srcDev_own c 0) (off1_row c 0) (off2_row c 0)) $$ [Hx A0]
  · iframe
  iintro ⟨Hx, A0⟩
  iapply (wp_pass m K c (px c) _ (dev3_eq c) 0 1 0 (k := quad c 0 0) rfl (quad_px c 0) (srcDev_px c 0) (off3_row c 0) rfl rfl
    (left (debtX c) (O₃ c) 3) rfl _) $$ [A0 P0 HO tSX0 tRX0]
  · isplitl [HO]; · iexact HO
    iframe; iframe #
  iintro ⟨cSX0, HO⟩
  iapply (wp_fill m c (srcDev_own c 1) (off1_row c 1) (off2_row c 1)) $$ [Hx A1]
  · iframe
  iintro ⟨Hx, A1⟩
  iapply (wp_pass m K c (px c) _ (dev4_eq c) 0 1 1 (k := quad c 0 1) rfl (quad_px c 1) (srcDev_px c 1) (off3_row c 1) rfl rfl
    (left (debtX c) (O₃ c) 2) rfl _) $$ [A1 P1 HO tSX1 tRX1]
  · isplitl [HO]; · iexact HO
    iframe; iframe #
  iintro ⟨cSX1, HO⟩
  iapply (wp_fill m c (srcDev_own c 2) (off1_row c 2) (off2_row c 2)) $$ [Hx A2]
  · iframe
  iintro ⟨Hx, A2⟩
  iapply (wp_pass m K c (px c) _ (dev5_eq c) 0 1 2 (k := quad c 0 2) rfl (quad_px c 2) (srcDev_px c 2) (off3_row c 2) rfl rfl
    (left (debtX c) (O₃ c) 1) rfl _) $$ [A2 P2 HO tSX2 tRX2]
  · isplitl [HO]; · iexact HO
    iframe; iframe #
  iintro ⟨cSX2, HO⟩
  iapply (wp_fill m c (srcDev_own c 3) (off1_row c 3) (off2_row c 3)) $$ [Hx A3]
  · iframe
  iintro ⟨Hx, A3⟩
  iapply (wp_pass m K c (px c) _ (dev6_eq c) 0 1 3 (k := quad c 0 3) rfl (quad_px c 3) (srcDev_px c 3) (off3_row c 3) rfl rfl
    (left (debtX c) (O₃ c) 0) rfl _) $$ [A3 P3 HO tSX3 tRX3]
  · isplitl [HO]; · iexact HO
    iframe; iframe #
  iintro ⟨cSX3, HO⟩
  iapply (wp_fill m c (srcDev_kept c 0) (off4_row c 0) (off5_row c 0)) $$ [Hx B0]
  · iframe
  iintro ⟨Hx, B0⟩
  iapply (wp_fill m c (srcDev_kept c 1) (off4_row c 1) (off5_row c 1)) $$ [Hx B1]
  · iframe
  iintro ⟨Hx, B1⟩
  iapply (wp_fill m c (srcDev_kept c 2) (off4_row c 2) (off5_row c 2)) $$ [Hx B2]
  · iframe
  iintro ⟨Hx, B2⟩
  iapply (wp_fill m c (srcDev_kept c 3) (off4_row c 3) (off5_row c 3)) $$ [Hx B3]
  · iframe
  iintro ⟨Hx, B3⟩
  -- what arrives across `x` goes on across `y`
  iapply (wp_arrive m K c 1 0 (g := 2) rfl rfl (above_leftY (by decide) c 4) _) $$ [cRX0 HO aRX0]
  · isplitl [HO]; · iexact HO
    iframe; iframe #
  iintro ⟨HO, zRX0, C0⟩
  iapply (wp_pass m K c (py c) _ (dev7_eq c) 2 3 0 (k := quad c 2 0) rfl (quad_py c 0) (srcDev_py c 0) (off6_row c 0) rfl rfl
    (left (debtY c) 0 3) rfl _) $$ [C0 R0 HO tSY0 tRY0]
  · isplitl [HO]; · iexact HO
    iframe; iframe #
  iintro ⟨cSY0, HO⟩
  iapply (wp_arrive m K c 1 1 (g := 2) rfl rfl (above_leftY (by decide) c 3) _) $$ [cRX1 HO aRX1]
  · isplitl [HO]; · iexact HO
    iframe; iframe #
  iintro ⟨HO, zRX1, C1⟩
  iapply (wp_pass m K c (py c) _ (dev8_eq c) 2 3 1 (k := quad c 2 1) rfl (quad_py c 1) (srcDev_py c 1) (off6_row c 1) rfl rfl
    (left (debtY c) 0 2) rfl _) $$ [C1 R1 HO tSY1 tRY1]
  · isplitl [HO]; · iexact HO
    iframe; iframe #
  iintro ⟨cSY1, HO⟩
  iapply (wp_arrive m K c 1 2 (g := 2) rfl rfl (above_leftY (by decide) c 2) _) $$ [cRX2 HO aRX2]
  · isplitl [HO]; · iexact HO
    iframe; iframe #
  iintro ⟨HO, zRX2, C2⟩
  iapply (wp_pass m K c (py c) _ (dev9_eq c) 2 3 2 (k := quad c 2 2) rfl (quad_py c 2) (srcDev_py c 2) (off6_row c 2) rfl rfl
    (left (debtY c) 0 1) rfl _) $$ [C2 R2 HO tSY2 tRY2]
  · isplitl [HO]; · iexact HO
    iframe; iframe #
  iintro ⟨cSY2, HO⟩
  iapply (wp_arrive m K c 1 3 (g := 2) rfl rfl (above_leftY (by decide) c 1) _) $$ [cRX3 HO aRX3]
  · isplitl [HO]; · iexact HO
    iframe; iframe #
  iintro ⟨HO, zRX3, C3⟩
  iapply (wp_pass m K c (py c) _ (dev10_eq c) 2 3 3 (k := quad c 2 3) rfl (quad_py c 3) (srcDev_py c 3) (off6_row c 3) rfl rfl
    (left (debtY c) 0 0) rfl _) $$ [C3 R3 HO tSY3 tRY3]
  · isplitl [HO]; · iexact HO
    iframe; iframe #
  iintro ⟨cSY3, HO⟩
  -- what arrives across `y`, and the sends' sources back
  iapply (wp_arrive m K c 3 0 (g := 3) rfl rfl (above_zero _) _) $$ [cRY0 HO aRY0]
  · isplitl [HO]; · iexact HO
    iframe; iframe #
  iintro ⟨HO, zRY0, D0⟩
  iapply (wp_arrive m K c 3 1 (g := 3) rfl rfl (above_zero _) _) $$ [cRY1 HO aRY1]
  · isplitl [HO]; · iexact HO
    iframe; iframe #
  iintro ⟨HO, zRY1, D1⟩
  iapply (wp_arrive m K c 3 2 (g := 3) rfl rfl (above_zero _) _) $$ [cRY2 HO aRY2]
  · isplitl [HO]; · iexact HO
    iframe; iframe #
  iintro ⟨HO, zRY2, D2⟩
  iapply (wp_arrive m K c 3 3 (g := 3) rfl rfl (above_zero _) _) $$ [cRY3 HO aRY3]
  · isplitl [HO]; · iexact HO
    iframe; iframe #
  iintro ⟨HO, zRY3, D3⟩
  iapply (wp_arrive m K c 0 0 (g := 0) rfl rfl (above_zero _) _) $$ [cSX0 HO aSX0]
  · isplitl [HO]; · iexact HO
    iframe; iframe #
  iintro ⟨HO, zSX0, A0⟩
  iapply (wp_arrive m K c 2 0 (g := 2) rfl rfl (above_zero _) _) $$ [cSY0 HO aSY0]
  · isplitl [HO]; · iexact HO
    iframe; iframe #
  iintro ⟨HO, zSY0, C0⟩
  iapply (wp_arrive m K c 0 1 (g := 0) rfl rfl (above_zero _) _) $$ [cSX1 HO aSX1]
  · isplitl [HO]; · iexact HO
    iframe; iframe #
  iintro ⟨HO, zSX1, A1⟩
  iapply (wp_arrive m K c 2 1 (g := 2) rfl rfl (above_zero _) _) $$ [cSY1 HO aSY1]
  · isplitl [HO]; · iexact HO
    iframe; iframe #
  iintro ⟨HO, zSY1, C1⟩
  iapply (wp_arrive m K c 0 2 (g := 0) rfl rfl (above_zero _) _) $$ [cSX2 HO aSX2]
  · isplitl [HO]; · iexact HO
    iframe; iframe #
  iintro ⟨HO, zSX2, A2⟩
  iapply (wp_arrive m K c 2 2 (g := 2) rfl rfl (above_zero _) _) $$ [cSY2 HO aSY2]
  · isplitl [HO]; · iexact HO
    iframe; iframe #
  iintro ⟨HO, zSY2, C2⟩
  iapply (wp_arrive m K c 0 3 (g := 0) rfl rfl (above_zero _) _) $$ [cSX3 HO aSX3]
  · isplitl [HO]; · iexact HO
    iframe; iframe #
  iintro ⟨HO, zSX3, A3⟩
  iapply (wp_arrive m K c 2 3 (g := 2) rfl rfl (above_zero _) _) $$ [cSY3 HO aSY3]
  · isplitl [HO]; · iexact HO
    iframe; iframe #
  iintro ⟨HO, zSY3, C3⟩
  rw [wp_ret]; imodintro
  iapply Hk
  isplitl [HO]; · iexists _; iexact HO
  rw [(strips_of_buffer c (out m c)).trans (four _)]
  unfold Φ₁
  simp only [four]
  iframe

end Cert.Gather

end
-- ==== Proof.Credit.lean ====
/-
What the devices together owe one device's semaphores at the launch: two units to its barrier semaphore, one from either partner,
and one strip's worth to each of its arrival semaphores.
-/
module

public import proofs.«01_k».proof.Proof.Body

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One device's debts, semaphore by semaphore -/

/-- With all four debts left, a semaphore is owed their sum. -/
theorem left_four (f : Fin 4 → CellTallies nD τ sig Unit) (O : CellTallies nD τ sig Unit) (g : GSem nD τ sig) :
    left f O 4 g () = O g () + ∑ s, f s g () := by
  have h : left f O 4 = O + f 3 + f 2 + f 1 + f 0 := rfl
  rw [h, Fin.sum_univ_four]
  simp only [Pi.add_apply, Finsupp.add_apply]
  omega

/-- Being somebody's `x` partner is mutual. -/
theorem px_eq_iff {c d : Dev nD} : c = px d ↔ d = px c := ⟨fun h => by rw [h, px_px], fun h => by rw [h, px_px]⟩
/-- Being somebody's `y` partner is mutual. -/
theorem py_eq_iff {c d : Dev nD} : c = py d ↔ d = py c := ⟨fun h => by rw [h, py_py], fun h => by rw [h, py_py]⟩

/-- A transfer across `x` owes nothing to a barrier semaphore, -/
theorem debtX_bar (d c : Dev nD) (s : Fin 4) : debtX d s (barCell c) () = 0 := by
  unfold debtX; rw [tallyAt_apply, if_neg fun h => xcell_ne_bar h.1.symm]
/-- nor does one across `y`. -/
theorem debtY_bar (d c : Dev nD) (s : Fin 4) : debtY d s (barCell c) () = 0 := by
  unfold debtY; rw [tallyAt_apply, if_neg fun h => xcell_ne_bar h.1.symm]
/-- A transfer across `x` owes a strip's worth to one transfer semaphore, the partner's arrival semaphore for that strip, -/
theorem debtX_x (d c : Dev nD) (k s s' : Fin 4) : debtX d s' (xcell c k s) () = if s = s' then if d = px c ∧ k = 1 then N else 0 else 0 := by
  unfold debtX; rw [tallyAt_apply, ← ite_and]
  exact if_congr (by rw [xcell_eq_iff, px_eq_iff]; tauto) rfl rfl
/-- and so does one across `y`. -/
theorem debtY_x (d c : Dev nD) (k s s' : Fin 4) : debtY d s' (xcell c k s) () = if s = s' then if d = py c ∧ k = 3 then N else 0 else 0 := by
  unfold debtY; rw [tallyAt_apply, ← ite_and]
  exact if_congr (by rw [xcell_eq_iff, py_eq_iff]; tauto) rfl rfl
/-- A barrier unit is nothing to a transfer semaphore, -/
theorem unit_x (a c : Dev nD) (k s : Fin 4) : (tallyAt (barCell a) () 1 : CellTallies nD τ sig Unit) (xcell c k s) () = 0 := by
  rw [tallyAt_apply, if_neg fun h => xcell_ne_bar h.1]

/-- and counts for the one barrier semaphore it is for. -/
theorem unit_bar (a c : Dev nD) : (tallyAt (barCell a) () 1 : CellTallies nD τ sig Unit) (barCell c) () = if c = a then 1 else 0 := by
  rw [tallyAt_apply]; exact if_congr (by rw [barCell_eq_iff]; tauto) rfl rfl

/-- Device `d` owes `c`'s barrier semaphore a unit for being its `x` partner and one for being its `y` partner. -/
theorem owed_bar (d c : Dev nD) : O₀ d (barCell c) () = (if d = py c then 1 else 0) + (if d = px c then 1 else 0) := by
  unfold O₀ O₁ O₂ O₃
  rw [Pi.add_apply, Finsupp.add_apply, Pi.add_apply, Finsupp.add_apply, left_four, left_four,
    Finset.sum_congr rfl fun s _ => debtX_bar d c s, Finset.sum_congr rfl fun s _ => debtY_bar d c s, unit_bar, unit_bar,
    if_congr py_eq_iff rfl rfl, if_congr px_eq_iff rfl rfl]
  simp

/-- Device `d` owes `c`'s transfer semaphores what arrives there across `x` if it is the `x` partner, across `y` if it is the `y`
    partner. -/
theorem owed_x (d c : Dev nD) (k s : Fin 4) :
    O₀ d (xcell c k s) () = (if d = py c ∧ k = 3 then N else 0) + (if d = px c ∧ k = 1 then N else 0) := by
  unfold O₀ O₁ O₂ O₃
  rw [Pi.add_apply, Finsupp.add_apply, Pi.add_apply, Finsupp.add_apply, left_four, left_four,
    Finset.sum_congr rfl fun s' _ => debtX_x d c k s s', Finset.sum_congr rfl fun s' _ => debtY_x d c k s s', unit_x, unit_x,
    Finset.sum_ite_eq, Finset.sum_ite_eq, if_pos (Finset.mem_univ _), if_pos (Finset.mem_univ _)]
  simp

/-! ## All devices' -/

/-- Together they owe `c`'s barrier semaphore two units, -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (py c) fun _ => 1, Finset.sum_ite_eq' Finset.univ (px c) fun _ => 1, if_pos (Finset.mem_univ _), if_pos (Finset.mem_univ _)]

/-- each of its arrival semaphores for `x` a strip's worth, -/
theorem launch_x (c : Dev nD) (s : Fin 4) :
    tallyOn (xcell c 1 s) (launchCredit (Pipeline.owing O₀) 0 (xcell c 1 s)) = (tallyAt (xcell c 1 s) () N : CellTallies nD τ sig Unit) := by
  unfold tallyAt; refine congrArg _ (Finsupp.ext fun u => ?_); cases u
  rw [Pipeline.launchCredit_owing, Finsupp.single_eq_same, Finset.sum_congr rfl fun d _ => (owed_x d c 1 s).trans
      (show _ = if d = px c then N else 0 by rw [if_neg fun h => absurd h.2 (by decide), Nat.zero_add]; exact if_congr (and_iff_left rfl) rfl rfl),
    Finset.sum_ite_eq' Finset.univ (px c) fun _ => N, if_pos (Finset.mem_univ _)]

/-- and each of those for `y`. -/
theorem launch_y (c : Dev nD) (s : Fin 4) :
    tallyOn (xcell c 3 s) (launchCredit (Pipeline.owing O₀) 0 (xcell c 3 s)) = (tallyAt (xcell c 3 s) () N : CellTallies nD τ sig Unit) := by
  unfold tallyAt; refine congrArg _ (Finsupp.ext fun u => ?_); cases u
  rw [Pipeline.launchCredit_owing, Finsupp.single_eq_same, Finset.sum_congr rfl fun d _ => (owed_x d c 3 s).trans
      (show _ = if d = py c then N else 0 by
        rw [if_neg (c := d = px c ∧ (3 : Fin 4) = 1) fun h => absurd h.2 (by decide), Nat.add_zero]; exact if_congr (and_iff_left rfl) rfl rfl),
    Finset.sum_ite_eq' Finset.univ (py c) fun _ => N, if_pos (Finset.mem_univ _)]

/-! ## The credits a device starts with -/

/-- The semaphores that take part, as a device's own. -/
def partSem : Part → SemLoc sig
  | .inl _ => .reg barS
  | .inr (k, s) => .dma (xsem k s)

/-- Different names stand for different semaphores of a device, -/
theorem partSem_injective : Function.Injective partSem := by
  rintro (⟨⟩ | ⟨k, s⟩) (⟨⟩ | ⟨k', s'⟩) h
  · rfl
  · cases h
  · cases h
  · obtain ⟨rfl, rfl⟩ := xsem_inj (SemLoc.dma.inj h); rfl

/-- and the name says nothing of the device: -/
theorem partCell_eq (c : Dev nD) (p : Part) : partCell (c, p) = ((c : Thread nD τ), partSem p) := by
  rcases p with ⟨⟩ | ⟨k, s⟩ <;> rfl

/-- so different devices or names stand for different semaphores. -/
theorem partCell_injective : Function.Injective partCell := by
  rintro ⟨c, p⟩ ⟨c', p'⟩ h
  rw [partCell_eq, partCell_eq] at h
  have h1 : c = c' := Fin.ext (congrArg (fun g : GSem nD τ sig => g.1.1.val) h)
  have h2 : p = p' := partSem_injective (congrArg Prod.snd h)
  rw [h1, h2]

omit [FloatOps F] in
/-- A family over the semaphores that take part: the barrier's member, and the transfers' by family and strip. -/
theorem part_split (Φ : Part → sProp 𝕄) :
    bigSep Finset.univ Φ = iprop(Φ (.inl ()) ∗ bigSep Finset.univ fun k : Fin 4 => bigSep Finset.univ fun s : Fin 4 => Φ (.inr (k, s))) := by
  rw [BI.bigSep_univ_sum, BI.bigSep_univ_prod (fun ks : Fin 4 × Fin 4 => Φ (.inr ks)), show (Finset.univ : Finset Unit) = {()} from rfl, bigSep_singleton]
  rfl

omit [FloatOps F] in
/-- What the launch credits a device with. -/
theorem creds (c : Dev nD) : (Pipeline.launchCred O₀ c : sProp 𝕄) ⊢ credits c := by
  unfold Pipeline.launchCred
  refine (BI.bigSep_subset (Finset.subset_univ (Finset.univ.map ⟨partSem, partSem_injective⟩))).trans ?_
  rw [bigSep_map, part_split, four]
  show iprop(cred (tallyOn (barCell c) (launchCredit (Pipeline.owing O₀) 0 (barCell c)))
      ∗ (bigSep Finset.univ fun s => cred (tallyOn (xcell c 0 s) (launchCredit (Pipeline.owing O₀) 0 (xcell c 0 s))))
      ∗ (bigSep Finset.univ fun s => cred (tallyOn (xcell c 1 s) (launchCredit (Pipeline.owing O₀) 0 (xcell c 1 s))))
      ∗ (bigSep Finset.univ fun s => cred (tallyOn (xcell c 2 s) (launchCredit (Pipeline.owing O₀) 0 (xcell c 2 s))))
      ∗ (bigSep Finset.univ fun s => cred (tallyOn (xcell c 3 s) (launchCredit (Pipeline.owing O₀) 0 (xcell c 3 s))))) ⊢ credits c
  rw [launch_bar, bigSep_congr (fun s _ => congrArg cred (launch_x c s)), bigSep_congr (fun s _ => congrArg cred (launch_y c s))]
  unfold credits
  iintro ⟨H, -, HX, -, HY⟩
  iframe

end Cert.Gather

end
-- ==== Proof.Run.lean ====
/-
The launch of the sixteen devices and the whole run: the ghost state is set up for all devices at once, every device runs its body,
and at the end the result array of every device holds what its output buffer was left with, the input array is unchanged and every
semaphore stands at zero.
-/
module

public import proofs.«01_k».proof.Proof.Credit
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline asks for it -/

omit [FloatOps F] in
/-- To own a whole buffer through its memory reference is to hold the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the pipeline hands the body at the grid's one point, -/
def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
/-- and what it wants back. -/
def bodyPost (c : Dev nD) : sProp 𝕄 :=
  iprop(Φ₁ c ∗ (dats m 0 c).owesAt () t0_0.succ ∗ stg c cc0_stg0_0 (xstg m c) ∗ stg c cc0_stg1_0 (out m c))

set_option maxRecDepth 4000 in
/-- From what the pipeline hands it the body gives back what the pipeline wants. -/
theorem body_obligation (c : Dev nD) : BodyObligation (dats (F := F) m 0 c) (defs₀ (F := F)) 𝒱₀ () Set.univ := fun t => by
  rw [fin_N0 t, bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1 cc0_scratch2 cc0_scratch3) (fun _ => bodyPost m c)
  unfold bodyPre Φ₀
  iintro ⟨⟨⟨%K, Hg⟩, Hcr, Hlev⟩, Ho, ⟨%d0, %g0, %hg0, Hx⟩, ⟨%d1, %g1, -, Hout⟩⟩
  have hx : g0 = xstg m c := by rw [hg0]; unfold Dat.before; rw [if_pos (fetch0_0 t0_0)]; rfl
  subst hx
  unfold Dat.owesAt Pipeline.owesWithin
  icases Ho with ⟨%W, -, HO⟩
  rw [show (dats m 0 c).owed t0_0.castSucc = O₀ c from rfl]
  iapply (run_body m K c W g1 fun _ => bodyPost m c)
  unfold xHeld
  isplitr []
  · iframe
  · iintro ⟨⟨%W', HO⟩, HΦ, Hx, Hout⟩
    unfold bodyPost Dat.owesAt Pipeline.owesWithin
    rw [show (dats m 0 c).owed t0_0.succ = 0 from rfl]
    isplitl [HΦ]; · iexact HΦ
    isplitl [HO]
    · iexists W'
      isplitr; · ipureintro; exact fun _ _ => Or.inl trivial
      iexact HO
    isplitl [Hx]
    · iexists _; isplitr; · (ipureintro; rfl)
      iexact Hx
    iexists _; isplitr; · (ipureintro; rfl)
    iexact Hout

/-! ## The launch's ghost state -/

/-- The kernel's own semaphores, by family and strip. -/
def osem (ks : Fin 4 × Fin 4) : SemLoc sig := .dma (xsem ks.1 ks.2)

/-- They are the scoped semaphores that do not belong to the pipeline's own transfers. -/
theorem ownSemFacts : Pipeline.OwnSemFacts cfg0.spec osem := by decide

/-- Every window's staging buffer is held in full. -/
theorem share_eq (c : Dev nD) (w : Fin cfg0.W) : (dats m 0 c).share w = fullShare := by unfold Dat.share; split <;> rfl

/-- All semaphores that take part, on all devices. -/
def allCells : Finset (GSem nD τ sig) := Finset.univ.map ⟨partCell, partCell_injective⟩

/-- The duties of one device's semaphores: the two of its barrier, and one per transfer semaphore. -/
abbrev Duty : Type := Bool ⊕ (Fin 4 × Fin 4)
/-- The token that pays a duty: semaphore, round, and which of the round's duties. -/
def dutyOf : Dev nD × Duty → GSem nD τ sig × ℕ × Bool
  | (c, .inl b) => (barCell c, 0, b)
  | (c, .inr (k, s)) => (xcell c k s, 0, false)

/-- Different duties have different tokens. -/
theorem dutyOf_injective : Function.Injective dutyOf := by
  rintro ⟨c, b | ⟨k, s⟩⟩ ⟨c', b' | ⟨k', s'⟩⟩ h
  · have h1 := barCell_eq_iff.mp (congrArg Prod.fst h)
    have h2 : b = b' := congrArg (fun x : GSem nD τ sig × ℕ × Bool => x.2.2) h
    rw [h1, h2]
  · exact absurd (congrArg Prod.fst h).symm xcell_ne_bar
  · exact absurd (congrArg Prod.fst h) xcell_ne_bar
  · obtain ⟨rfl, rfl, rfl⟩ := xcell_eq_iff.mp (congrArg Prod.fst h); rfl

/-- The tokens of all duties. -/
def allDuties : Finset (GSem nD τ sig × ℕ × Bool) := Finset.univ.map ⟨dutyOf, dutyOf_injective⟩

/-- The launch element: the pipeline's rounds, and those of the exchange. -/
def u₀ : UU :=
  (initOf (Pipeline.cells cfgs cellOf_inj) (Pipeline.launchToks cfgs cellOf_inj), initOf allCells allDuties)

/-- The tokens of the duties of device `c`'s own semaphores. -/
def minted (c : Dev nD) : sProp 𝕄 :=
  iprop((dutyTok EX (barCell c) 0 false ∗ dutyTok EX (barCell c) 0 true)
    ∗ (bigSep Finset.univ fun s : Fin 4 => dutyTok EX (xcell c 0 s) 0 false)
    ∗ (bigSep Finset.univ fun s : Fin 4 => dutyTok EX (xcell c 1 s) 0 false)
    ∗ (bigSep Finset.univ fun s : Fin 4 => dutyTok EX (xcell c 2 s) 0 false)
    ∗ (bigSep Finset.univ fun s : Fin 4 => dutyTok EX (xcell c 3 s) 0 false))

/-- What the launch element deals device `c`. -/
def G (c : Dev nD) : sProp 𝕄 :=
  iprop((bigSep Finset.univ fun p : Part => roundState EX (sched m) (partCell (c, p)) 0)
    ∗ (bigSep Finset.univ fun p : Part => atPos EX (partCell (c, p)) 0 ∅ 0)
    ∗ (bigSep Finset.univ fun p : Part => reached EX (partCell (c, p)) 0) ∗ minted c)

/-- What it holds once all devices' semaphores are set up together. -/
def G' (c : Dev nD) : sProp 𝕄 := iprop(∃ K, ghost m K c)

omit [FloatOps F] in
/-- The launch element is every device's share of it. -/
theorem fund_all : BI.own (EX (initOf allCells allDuties)) ⊢ (|==> bigSep Finset.univ (G m) : sProp 𝕄) := by
  have hX (Φ : GSem nD τ sig → sProp 𝕄) :
      bigSep allCells Φ = bigSep Finset.univ fun c : Dev nD => bigSep Finset.univ fun p : Part => Φ (partCell (c, p)) := by
    unfold allCells; rw [bigSep_map, bigSep_univ_prod]; rfl
  have hT : bigSep allDuties (fun x => (dutyTok EX x.1 x.2.1 x.2.2 : sProp 𝕄)) = bigSep Finset.univ fun c : Dev nD => minted c := by
    unfold allDuties; rw [bigSep_map, bigSep_univ_prod]
    refine bigSep_congr fun c _ => ?_
    rw [BI.bigSep_univ_sum, BI.bigSep_univ_prod, four, bigSep_univ_eq_bigSepL [false, true] (by decide) (by decide), bigSepL_cons_cons, bigSepL_singleton]
    rfl
  iintro HX
  imod (Rounds.fund EX (sched m) allCells allDuties) $$ HX with ⟨Hst, Hr, Hat, Htok⟩
  imodintro
  ihave Hst' := (Entails.of_eq (hX fun g => roundState EX (sched m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  iframe

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own semaphores at zero, by family and strip. -/
theorem ownSems0_eq (c : Dev nD) : (Pipeline.ownSems0 (Ix := Unit) (Name := ℕ) (U := UU) (Lvl := ℕ) (Val := Elt F) (τ := τ) osem c : sProp 𝕄)
    = bigSep Finset.univ fun k : Fin 4 => bigSep Finset.univ fun s : Fin 4 => semVal (xcell c k s) 0 := by
  unfold Pipeline.ownSems0; rw [BI.bigSep_univ_prod]; rfl

omit [FloatOps F] in
/-- Together they are the semaphores that take part. -/
theorem sems0_eq (c : Dev nD) :
    (bigSep Finset.univ fun p : Part => semVal (partCell (c, p)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, part_split]; rfl

omit [FloatOps F] in
/-- A device's semaphores become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun p : Part => iprop(∃ κ : ℕ, cellInv EX (sched m) κ (partCell (c, p))))
          ∗ (bigSep Finset.univ fun p : Part => atPos EX (partCell (c, p)) 0 ∅ 0)
          ∗ (bigSep Finset.univ fun p : Part => reached EX (partCell (c, p)) 0) ∗ minted c) := by
  unfold G
  iintro ⟨Hos, Hus, Hst, Hrest⟩
  ihave Hv := (Entails.of_eq (sems0_eq (F := F) c).symm) $$ [Hos Hus]
  · isplitl [Hus] <;> iassumption
  imod (show iprop((bigSep Finset.univ fun p : Part => semVal (partCell (c, p)) 0) ∗ bigSep Finset.univ fun p : Part => roundState EX (sched m) (partCell (c, p)) 0)
      ⊢ (|={Set.univ}=> bigSep Finset.univ fun p : Part => iprop(∃ κ : ℕ, cellInv EX (sched m) κ (partCell (c, p))) : sProp 𝕄) from by
        rw [← bigSep_sep']
        exact (bigSep_mono fun p _ => (Rounds.body_intro EX (sched m) (partCell (c, p))).trans inv_alloc).trans (bigSep_fupd _ _)) $$ [Hv Hst] with Hinv
  · isplitl [Hv] <;> iassumption
  imodintro
  isplitl [Hinv]; · iexact Hinv
  iexact Hrest

omit [FloatOps F] in
/-- The tokens dealt to the devices that pay with them: those of the barrier's first duty and of the arrivals across `x` go to the
    `x` partner, those of its second duty and of the arrivals across `y` to the `y` partner. -/
theorem deal : (bigSep Finset.univ fun c : Dev nD => (minted c : sProp 𝕄)) ⊢ bigSep Finset.univ fun c : Dev nD => tokens c := by
  unfold minted tokens
  simp only [bigSep_sep']
  rw [bigSep_univ_equiv flipX (fun c : Dev nD => (dutyTok EX (barCell c) 0 false : sProp 𝕄)),
    bigSep_univ_equiv flipY (fun c : Dev nD => (dutyTok EX (barCell c) 0 true : sProp 𝕄)),
    bigSep_univ_equiv flipX (fun c : Dev nD => (bigSep Finset.univ fun s : Fin 4 => dutyTok EX (xcell c 1 s) 0 false : sProp 𝕄)),
    bigSep_univ_equiv flipY (fun c : Dev nD => (bigSep Finset.univ fun s : Fin 4 => dutyTok EX (xcell c 3 s) 0 false : sProp 𝕄))]
  iintro ⟨⟨H1, H2⟩, H3, H4, H5, H6⟩
  isplitl [H1]; · iexact H1
  isplitl [H2]; · iexact H2
  isplitl [H3]; · iexact H3
  isplitl [H4]; · iexact H4
  isplitl [H5]; · iexact H5
  iexact H6

omit [FloatOps F] in
/-- Something known for good may be given to every member of a family. -/
theorem give_all {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- All devices' invariants, positions and tokens, regrouped by the device that uses them. -/
theorem regroup :
    (bigSep Finset.univ fun c : Dev nD => iprop((bigSep Finset.univ fun p : Part => iprop(∃ κ : ℕ, cellInv EX (sched m) κ (partCell (c, p))))
          ∗ (bigSep Finset.univ fun p : Part => atPos EX (partCell (c, p)) 0 ∅ 0)
          ∗ (bigSep Finset.univ fun p : Part => reached EX (partCell (c, p)) 0) ∗ minted c) : sProp 𝕄)
      ⊢ bigSep Finset.univ (G' m) := by
  rw [bigSep_sep', bigSep_sep', bigSep_sep', ← BI.bigSep_univ_prod (fun p : Dev nD × Part => iprop(∃ κ : ℕ, cellInv EX (sched m) κ (partCell p))),
    ← BI.bigSep_univ_prod (fun p : Dev nD × Part => (reached EX (partCell p) 0 : sProp 𝕄))]
  iintro ⟨HI, Hat, #HR, Htok⟩
  ihave HK := (BI.bigSep_exists_pi Finset.univ (fun (p : Dev nD × Part) (κ : ℕ) => (cellInv EX (sched m) κ (partCell p) : sProp 𝕄))) $$ HI
  icases HK with ⟨%K, #HI⟩
  ihave Htk := (deal (F := F)) $$ Htok
  iapply (give_all (R := known m K) (Φ := fun c : Dev nD => iprop((bigSep Finset.univ fun p : Part => atPos EX (partCell (c, p)) 0 ∅ 0) ∗ tokens c))
    fun c _ => by
      unfold G' ghost places
      rw [part_split]
      iintro ⟨HK, Hat, Ht⟩
      iexists K
      isplitl [HK]; · iexact HK
      isplitl [Hat]; · iexact Hat
      iexact Ht)
  isplitr
  · unfold known
    rw [bigSep_sep']
    isplitr; · iexact HI
    iexact HR
  · rw [bigSep_sep']
    isplitl [Hat]; · iexact Hat
    iexact Htk

omit [FloatOps F] in
/-- The set-up of all devices' semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The side conditions of the launch -/

omit [FloatOps F] in
/-- What a device gets at the launch is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Φ₀ m c ∗ emp) := by
  iintro ⟨-, Hlev, Hcr, -, HG⟩
  ihave Hc := (creds (F := F) c) $$ Hcr
  imodintro
  unfold Φ₀ G'
  isplitl
  · isplitl [HG]; · iexact HG
    isplitl [Hc]; · iexact Hc
    iexact Hlev
  · iempintro

/-- Beside it, the region's own memory is nothing. -/
theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨Hs, -, -⟩
  iexact Hs

/-- What the body leaves are all semaphores at zero. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁
  iintro ⟨HB, HX⟩
  isplitl [HB]; · iexact HB
  isplitl [HX]; · iexact HX
  iempintro

/-- The pipeline's own semaphores are on the lowest level, -/
theorem lv_stage (c : Dev nD) (w : Fin cfg0.W) (s) : lv ((c : Thread nD τ), .dma ((cfg0.win w).sem s)) () ≤ 0 := by
  show (![0, 2, 0, 3] : Fin 4 → ℕ) (famOf ((cfg0.win w).sem s)) ≤ 0
  clear c; revert w s; decide

/-- so its waits are below everything a device owes. -/
theorem waits (c : Dev nD) : (levAts L lv : sProp 𝕄) ⊢ Pipeline.cellsWaits cfgs (dats m) () 0 c :=
  Pipeline.cellsWaits_intro cfgs (dats m) () 0 c fun w s t =>
    mayWait c _ 0 (lv_stage c w s) (by
      rcases t with ⟨_ | _, ht⟩
      · exact above_O₀ c
      · exact above_zero 0)

/-! ## The run -/

/-- What the arrays of device `c` hold at the end. -/
def finalA (c : Dev nD) (w : Fin cfg0.W) : Buf (Elt F) ((cfg0.win w).arr.view.loc (c : Thread nD τ)) := (dats m 0 c).arrAt w cfg0.N

set_option maxRecDepth 8000 in
/-- From any memory with all semaphores at zero, for any float values: the sixteen devices terminate without a fault, each one's
    arrays end as its ledger says, and every semaphore stands at zero. -/
theorem run_main : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := Φ₀ m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Gather

end
-- ==== Proof.Value.lean ====
/-
What the run leaves in the arrays: the input array of every device as it was, and in every device's result array the whole array
whose blocks the devices started with.
-/
module

public import proofs.«01_k».proof.Proof.Run
public import Idealize.ShloMosaic.Lib.Layout

@[expose] public section

noncomputable section

namespace Cert.Gather

open Cert.KernelIdeal Cert.KernelIdeal.Gen

open Idealize.ShloMosaic
open Idealize.ShloMosaic.TcCoe
open Idealize.ShloMosaic.Pipeline (Dat Cfg Window)

variable {F : FTy → Type} [FloatOps F]
variable (m : (ℓ : Loc nD τ sig) → Buf (Elt F) ℓ)

/-! ## Windows that are whole arrays -/

/-- The input window's one block is the input array. -/
theorem xstg_eq (c : Dev nD) : xstg m c = m ((c : Thread nD τ).loc main_arg0) :=
  Memref.read_access_unit_zero (Elt F) main_arg0 (funext fun a => by fin_cases a <;> decide) (fun a => by fin_cases a <;> decide) _

/-- The result window's one block is the result array. -/
theorem read_result (c : Dev nD) (f : Buf (Elt F) ((c : Thread nD τ).loc main_v1)) : (win0_1.blk t0_0).view.read (Elt F) f = f :=
  Memref.read_access_unit_zero (Elt F) main_v1 (funext fun a => by fin_cases a <;> decide) (fun a => by fin_cases a <;> decide) f

/-- The input array of every device ends as it began. -/
theorem finalA_arg (c : Dev nD) : finalA m c (0 : Fin 2) = m ((c : Thread nD τ).loc main_arg0) :=
  (dats (F := F) m 0 c).arrAt_in (0 : Fin 2) rfl _

/-- The result array of every device ends as the body left its output buffer. -/
theorem finalA_result (c : Dev nD) : finalA m c (1 : Fin 2) = out m c := by
  refine (read_result c _).symm.trans ?_
  unfold finalA
  rw [show cfg0.N = t0_0.val + 1 from rfl, (dats m 0 c).arrAt_succ (1 : Fin 2) t0_0, flush0_1, if_pos rfl]
  exact (View.read_write_univ _ _).trans (funext fun _ => rfl)

/-! ## The blocks put together -/

/-- A device's place along the mesh's first axis: `c / 8`. -/
theorem block_row (c : Dev nD) : ((Layout.meshBlock [2, 2, 4] ![[0], []] c) (0 : Fin 2)).val = c.val / 8 := by revert c; decide

/-- If every device's input is its block of one array `v`, every device's result is `v`: the strip an element lies in came from a
    device in the half of the mesh that holds that half of `v`'s rows. -/
theorem out_eq (v : S1024x512.Idx → Elt F .bf16)
    (h : ∀ c : Dev nD, m ((c : Thread nD τ).loc main_arg0)
      = Layout.blockN ⟨2, ![512, 512]⟩ ⟨2, ![1024, 512]⟩ (Layout.meshBlock [2, 2, 4] ![[0], []] c) v) (c : Dev nD) :
    out m c = v := by
  funext (i : S1024x512.Idx)
  have hi : (i (0 : Fin 2)).val < 1024 := (i (0 : Fin 2)).isLt
  have hd : (srcDev c ((i (0 : Fin 2)).val / 64)).val / 8 = (i (0 : Fin 2)).val / 64 / 8 := srcDev_half c ⟨(i (0 : Fin 2)).val / 64, by omega⟩
  show (xstg m (srcDev c ((i (0 : Fin 2)).val / 64)) : S512x512.Idx → Elt F .bf16) (within i) = v i
  rw [xstg_eq, h, Layout.blockN_apply]
  congr 1
  funext a
  refine Fin.ext ((Layout.TilesN.idx_val _ _ _ _).trans ?_)
  fin_cases a
  · show ((Layout.meshBlock [2, 2, 4] ![[0], []] (srcDev c ((i (0 : Fin 2)).val / 64))) (0 : Fin 2)).val * 512 + (i (0 : Fin 2)).val % 512 = (i (0 : Fin 2)).val
    rw [block_row]
    omega
  · show 0 * 512 + (i (1 : Fin 2)).val = (i (1 : Fin 2)).val
    omega

end Cert.Gather

end
-- ==== Proof.lean ====
/-
The proof of `Cert.Claim` (Defs.lean).

The kernel runs on sixteen devices in a 2 x 2 x 4 mesh. Each device holds a block of 512 rows; at the end each holds all 1024 rows.
A device sends half of its block to its partner across `x`, strip by strip, and hands each strip that arrives from there on to its
partner across `y`. Sixteen strips of 64 rows make up the output buffer of a device: four it fills and sends, four it fills and
keeps, four that arrive across `x` and four that arrive across `y`.

  Proof/Strips.lean    the partners, the strips, and what each strip ends up holding
  Proof/Schedule.lean  what each semaphore's units stand for, what a device owes, and the order in which semaphores are waited for
  Proof/Steps.lean     one step of the body: filling a strip, sending a strip on, waiting for one
  Proof/Body.lean      the body of one device
  Proof/Credit.lean    the units due to each device add up to what it waits for
  Proof/Run.lean       the launch of the sixteen devices and the whole run
  Proof/Value.lean     the result array is the whole array

The run is proved once, for any float values. The kernel and its idealized reading have the same text, so it serves both.
-/
module

public import proofs.«01_k».proof.Defs
public import proofs.«01_k».proof.Proof.Gen.Kernel
public import proofs.«01_k».proof.Proof.Gen.ReferenceIdeal
public import proofs.«01_k».proof.Proof.Value
public import Idealize.ShloMosaic.Lib.Claim

@[expose] public section

noncomputable section

namespace Cert.Proof

open Idealize.ShloMosaic Idealize.SL.Sem
open Cert.Gather (run_main finalA_arg finalA_result out_eq)

/-- The kernel and its idealized reading have the same bodies, -/
theorem same_bodies : Cert.Kernel.defs₀ (F := Bits) = Cert.KernelIdeal.defs₀ (F := Bits) := by
  unfold Cert.Kernel.defs₀ Cert.KernelIdeal.defs₀
  congr 1
  funext ℓ x
  match ℓ, x with
  | 0, (t, s) => rfl
/-- so the same programs under all labels. -/
theorem same_defs : Cert.Kernel.defs (F := Bits) = Cert.KernelIdeal.defs (F := Bits) :=
  congrArg (Pipeline.defs (Cert.Kernel.pcfgs (F := Bits))) same_bodies

/-- The kernel terminates without a fault, its argument unchanged and all semaphores at zero. -/
theorem frame_kernel : Cert.quiescent_Kernel := fun m ρ _ =>
  Eq.mpr (congrArg (fun D => θ_run D (onTc (Cert.Kernel.main (F := Bits))) _ _) same_defs)
    ((θ_run Cert.KernelIdeal.defs _ _).mono (fun _ h => ⟨fun c => (h.1 c (0 : Fin 2)).trans (finalA_arg m c), h.2⟩) (run_main (F := Bits) m ρ))

/-- So does its idealized reading. -/
theorem frame_ideal : Cert.quiescent_KernelIdeal := fun m ρ _ =>
  (θ_run Cert.KernelIdeal.defs _ _).mono (fun _ h => ⟨fun c => (h.1 c (0 : Fin 2)).trans (finalA_arg m c), h.2⟩) (run_main (F := Ideal) m ρ)

/-- The reference returns its argument: it terminates with every buffer as it was. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ (d : Dev Cert.ReferenceIdeal.nD) (b : Ref Cert.ReferenceIdeal.sig .tc), r.2.mem ((d.tc : Thread _ Cert.ReferenceIdeal.τ).loc b) = m ((d.tc : Thread _ Cert.ReferenceIdeal.τ).loc b)) :=
  StableHlo.run_hlo _ _ (ops := []) (by hlo_seq) (by decide) (by decide) trivial (fun _ h => nomatch h) m ρ

/-- The reference terminates without a fault, its argument unchanged; it has no semaphore. -/
theorem frame_reference : Cert.quiescent_ReferenceIdeal := fun m ρ _ =>
  (θ_run Cert.ReferenceIdeal.defs _ _).mono (fun r h => ⟨fun c => h c _, sem_eq_zero_of_no_sems rfl r.2⟩) (run_reference m ρ)

/-- From blocks of one array, every device of the kernel ends with the array that the reference returns. -/
theorem value : Cert.algebraic_KernelIdeal_ReferenceIdeal := fun m g m' g' _ hagree =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ h c =>
      ⟨((h.1 c (1 : Fin 2)).trans (finalA_result m c)).trans (out_eq m _ hagree c), (h.1 c (0 : Fin 2)).trans (finalA_arg m c)⟩)
      (run_main (F := Ideal) m g),
    (θ_run Cert.ReferenceIdeal.defs _ _).mono (fun _ h => ⟨h 0 _, h 0 _⟩) (run_reference m' g')⟩

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
